-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x384x3584 : Shape := ⟨3, ![16, 384, 3584]⟩
abbrev S16x384 : Shape := ⟨2, ![16, 384]⟩
abbrev S18944x3584 : Shape := ⟨2, ![18944, 3584]⟩
abbrev S18944x28 : Shape := ⟨2, ![18944, 28]⟩
abbrev S16x384x18944 : Shape := ⟨3, ![16, 384, 18944]⟩
abbrev S6144x3584 : Shape := ⟨2, ![6144, 3584]⟩
abbrev S1x6144 : Shape := ⟨2, ![1, 6144]⟩
abbrev S6144x18944 : Shape := ⟨2, ![6144, 18944]⟩
abbrev S8x128 : Shape := ⟨2, ![8, 128]⟩
abbrev S256x3584 : Shape := ⟨2, ![256, 3584]⟩
abbrev S256x28 : Shape := ⟨2, ![256, 28]⟩
abbrev S6144x256 : Shape := ⟨2, ![6144, 256]⟩
abbrev S256x6144 : Shape := ⟨2, ![256, 6144]⟩
abbrev S256x128 : Shape := ⟨2, ![256, 128]⟩
abbrev S256 : Shape := ⟨1, ![256]⟩
abbrev S256x1 : Shape := ⟨2, ![256, 1]⟩
abbrev S512x3584 : Shape := ⟨2, ![512, 3584]⟩
abbrev S256x512 : Shape := ⟨2, ![256, 512]⟩
abbrev S1x512 : Shape := ⟨2, ![1, 512]⟩
abbrev S512x256 : Shape := ⟨2, ![512, 256]⟩
abbrev S32x8x512 : Shape := ⟨3, ![32, 8, 512]⟩
abbrev S8x512 : Shape := ⟨2, ![8, 512]⟩
abbrev S6144x512 : Shape := ⟨2, ![6144, 512]⟩
abbrev S_ : Shape := ⟨0, ![]⟩

abbrev nBuf : Space → Nat
  | .hbm => 19
  | .vmem => 30
  | .smem => 0
  | _ => 0

abbrev bufTy : (tb : Table) → Fin (tcTables nBuf tb) → BufTy
  | .hbm, ⟨0, _⟩ => ⟨S16x384x3584, .fp8e4m3⟩
  | .hbm, ⟨1, _⟩ => ⟨S16x384, .f32⟩
  | .hbm, ⟨2, _⟩ => ⟨S18944x3584, .f32⟩
  | .hbm, ⟨3, _⟩ => ⟨S18944x28, .f32⟩
  | .hbm, ⟨4, _⟩ => ⟨S18944x28, .f32⟩
  | .hbm, ⟨5, _⟩ => ⟨S16x384x18944, .bf16⟩
  | .hbm, ⟨6, _⟩ => ⟨S6144x3584, .fp8e4m3⟩
  | .hbm, ⟨7, _⟩ => ⟨S1x6144, .f32⟩
  | .hbm, ⟨8, _⟩ => ⟨S6144x18944, .bf16⟩
  | .hbm, ⟨9, _⟩ => ⟨S18944x28, .f32⟩
  | .hbm, ⟨10, _⟩ => ⟨S18944x28, .f32⟩
  | .hbm, ⟨11, _⟩ => ⟨S8x128, .f32⟩
  | .hbm, ⟨12, _⟩ => ⟨S18944x3584, .i8⟩
  | .hbm, ⟨13, _⟩ => ⟨S18944x28, .f32⟩
  | .hbm, ⟨14, _⟩ => ⟨S18944x28, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S6144x3584, .fp8e4m3⟩
  | .local _ .vmem, ⟨1, _⟩ => ⟨S1x6144, .f32⟩
  | .local _ .vmem, ⟨2, _⟩ => ⟨S256x3584, .f32⟩
  | .local _ .vmem, ⟨3, _⟩ => ⟨S256x3584, .f32⟩
  | .local _ .vmem, ⟨4, _⟩ => ⟨S256x28, .f32⟩
  | .local _ .vmem, ⟨5, _⟩ => ⟨S256x28, .f32⟩
  | .local _ .vmem, ⟨6, _⟩ => ⟨S256x28, .f32⟩
  | .local _ .vmem, ⟨7, _⟩ => ⟨S256x28, .f32⟩
  | .local _ .vmem, ⟨8, _⟩ => ⟨S6144x256, .bf16⟩
  | .local _ .vmem, ⟨9, _⟩ => ⟨S6144x256, .bf16⟩
  | .local _ .vmem, ⟨10, _⟩ => ⟨S256x28, .f32⟩
  | .local _ .vmem, ⟨11, _⟩ => ⟨S256x28, .f32⟩
  | .local _ .vmem, ⟨12, _⟩ => ⟨S256x28, .f32⟩
  | .local _ .vmem, ⟨13, _⟩ => ⟨S256x28, .f32⟩
  | .local _ .vmem, ⟨14, _⟩ => ⟨S8x128, .f32⟩
  | .local _ .vmem, ⟨15, _⟩ => ⟨S256x3584, .i8⟩
  | .local _ .vmem, ⟨16, _⟩ => ⟨S256x3584, .i8⟩
  | .local _ .vmem, ⟨17, _⟩ => ⟨S256x28, .f32⟩
  | .local _ .vmem, ⟨18, _⟩ => ⟨S256x28, .f32⟩
  | .local _ .vmem, ⟨19, _⟩ => ⟨S256x28, .f32⟩
  | .local _ .vmem, ⟨20, _⟩ => ⟨S256x28, .f32⟩
  | .local _ .vmem, ⟨21, _⟩ => ⟨S256x3584, .bf16⟩
  | .local _ .vmem, ⟨22, _⟩ => ⟨S256x6144, .bf16⟩
  | .local _ .vmem, ⟨23, _⟩ => ⟨S256x3584, .f32⟩
  | .local _ .vmem, ⟨24, _⟩ => ⟨S256x3584, .bf16⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | _, _ => ⟨S16x384x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![74], ![false]⟩

@[reducible] def k0_t1_loop : Scf.Loop 32 :=
  let c0_i32_575 : BitVec 32 := 0#32
  let c12_i32_576 : BitVec 32 := 12#32
  let v1623 : BitVec 32 := Scalar.addi c0_i32_575 c12_i32_576
  let c1_i32_577 : BitVec 32 := 1#32
  ⟨c0_i32_575, v1623, c1_i32_577⟩
def k0_mult1 (k0_t1 : Fin k0_t1_loop.trips) : BitVec 32 :=
  let c0_i32_575 : BitVec 32 := 0#32
  let c1_i32_577 : BitVec 32 := 1#32
  let arg22 : BitVec 32 := Scf.iv c0_i32_575 c1_i32_577 k0_t1
  let c512_i32 : BitVec 32 := 512#32
  let v1656 : BitVec 32 := Scalar.muli arg22 c512_i32
  v1656
def k0_off1 (k0_t1 : Fin k0_t1_loop.trips) : Fin 2 → Nat :=
  let c0_i32_575 : BitVec 32 := 0#32
  let c1_i32_577 : BitVec 32 := 1#32
  let arg22 : BitVec 32 := Scf.iv c0_i32_575 c1_i32_577 k0_t1
  let c512_i32 : BitVec 32 := 512#32
  let v1656 : BitVec 32 := Scalar.muli arg22 c512_i32
  let v1657 : BitVec 32 := v1656
  let v1659 : Index := Scalar.indexCast v1657
  let c0_605 : Index := 0#32
  ![v1659.toNat, 0]
def k0_off2 (k0_t1 : Fin k0_t1_loop.trips) : Fin 2 → Nat :=
  let c0_607 : Index := 0#32
  let c0_i32_575 : BitVec 32 := 0#32
  let c1_i32_577 : BitVec 32 := 1#32
  let arg22 : BitVec 32 := Scf.iv c0_i32_575 c1_i32_577 k0_t1
  let c512_i32 : BitVec 32 := 512#32
  let v1656 : BitVec 32 := Scalar.muli arg22 c512_i32
  let v1657 : BitVec 32 := v1656
  let v1663 : Index := Scalar.indexCast v1657
  ![0, v1663.toNat]
def k0_off3 (k0_t1 : Fin k0_t1_loop.trips) : Fin 2 → Nat :=
  let c0_i32_575 : BitVec 32 := 0#32
  let c1_i32_577 : BitVec 32 := 1#32
  let arg22 : BitVec 32 := Scf.iv c0_i32_575 c1_i32_577 k0_t1
  let c512_i32 : BitVec 32 := 512#32
  let v1656 : BitVec 32 := Scalar.muli arg22 c512_i32
  let v1657 : BitVec 32 := v1656
  let v1668 : Index := Scalar.indexCast v1657
  let c0_608 : Index := 0#32
  ![v1668.toNat, 0]
def k0_off4 (k0_t1 : Fin k0_t1_loop.trips) : Fin 2 → Nat :=
  let c0_614 : Index := 0#32
  let c0_i32_575 : BitVec 32 := 0#32
  let c1_i32_577 : BitVec 32 := 1#32
  let arg22 : BitVec 32 := Scf.iv c0_i32_575 c1_i32_577 k0_t1
  let c512_i32 : BitVec 32 := 512#32
  let v1656 : BitVec 32 := Scalar.muli arg22 c512_i32
  let v1657 : BitVec 32 := v1656
  let v1691 : Index := Scalar.indexCast v1657
  ![0, v1691.toNat]
@[reducible] def k0_t2_loop : Scf.Loop 32 :=
  let c0_i32_585 : BitVec 32 := 0#32
  let c7_i32_586 : BitVec 32 := 7#32
  let v1632 : BitVec 32 := Scalar.addi c0_i32_585 c7_i32_586
  let c1_i32_587 : BitVec 32 := 1#32
  ⟨c0_i32_585, v1632, c1_i32_587⟩
def k0_mult2 (k0_t2 : Fin k0_t2_loop.trips) : BitVec 32 :=
  let c0_i32_585 : BitVec 32 := 0#32
  let c1_i32_587 : BitVec 32 := 1#32
  let arg22 : BitVec 32 := Scf.iv c0_i32_585 c1_i32_587 k0_t2
  let c512_i32 : BitVec 32 := 512#32
  let v1656 : BitVec 32 := Scalar.muli arg22 c512_i32
  v1656
def k0_off5 (k0_t2 : Fin k0_t2_loop.trips) : Fin 2 → Nat :=
  let c0_605 : Index := 0#32
  let c0_i32_585 : BitVec 32 := 0#32
  let c1_i32_587 : BitVec 32 := 1#32
  let arg22 : BitVec 32 := Scf.iv c0_i32_585 c1_i32_587 k0_t2
  let c512_i32 : BitVec 32 := 512#32
  let v1656 : BitVec 32 := Scalar.muli arg22 c512_i32
  let v1657 : BitVec 32 := v1656
  let v1659 : Index := Scalar.indexCast v1657
  ![0, v1659.toNat]
def k0_off6 (k0_t2 : Fin k0_t2_loop.trips) : Fin 2 → Nat :=
  let c0_607 : Index := 0#32
  let c0_i32_585 : BitVec 32 := 0#32
  let c1_i32_587 : BitVec 32 := 1#32
  let arg22 : BitVec 32 := Scf.iv c0_i32_585 c1_i32_587 k0_t2
  let c512_i32 : BitVec 32 := 512#32
  let v1656 : BitVec 32 := Scalar.muli arg22 c512_i32
  let v1657 : BitVec 32 := v1656
  let v1663 : Index := Scalar.indexCast v1657
  ![0, v1663.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6144x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x28 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x28 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6144x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x28 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x28 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3584 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x28 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x28 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16x384x3584 : Shape := ⟨3, ![16, 384, 3584]⟩
abbrev S16x384 : Shape := ⟨2, ![16, 384]⟩
abbrev S18944x3584 : Shape := ⟨2, ![18944, 3584]⟩
abbrev S18944x28 : Shape := ⟨2, ![18944, 28]⟩
abbrev S16x384x18944 : Shape := ⟨3, ![16, 384, 18944]⟩
abbrev S1x1 : Shape := ⟨2, ![1, 1]⟩
abbrev S18944x28x128 : Shape := ⟨3, ![18944, 28, 128]⟩
abbrev S18944x28x1 : Shape := ⟨3, ![18944, 28, 1]⟩
abbrev S16x384x1 : Shape := ⟨3, ![16, 384, 1]⟩
abbrev S1x16x384x18944 : Shape := ⟨4, ![1, 16, 384, 18944]⟩
abbrev S1 : Shape := ⟨1, ![1]⟩
abbrev S1x1x1x1 : Shape := ⟨4, ![1, 1, 1, 1]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S16x384x3584, .fp8e4m3⟩
  | .hbm, ⟨1, _⟩ => ⟨S16x384, .f32⟩
  | .hbm, ⟨2, _⟩ => ⟨S18944x3584, .f32⟩
  | .hbm, ⟨3, _⟩ => ⟨S18944x28, .f32⟩
  | .hbm, ⟨4, _⟩ => ⟨S18944x28, .f32⟩
  | .hbm, ⟨5, _⟩ => ⟨S16x384x18944, .bf16⟩
  | .hbm, ⟨6, _⟩ => ⟨S18944x28, .f32⟩
  | .hbm, ⟨7, _⟩ => ⟨S18944x28, .f32⟩
  | .hbm, ⟨8, _⟩ => ⟨S1x1, .f32⟩
  | .hbm, ⟨9, _⟩ => ⟨S18944x3584, .i8⟩
  | .hbm, ⟨10, _⟩ => ⟨S18944x28, .f32⟩
  | .hbm, ⟨11, _⟩ => ⟨S18944x28, .f32⟩
  | .hbm, ⟨12, _⟩ => ⟨S_, .f32⟩
  | .local _ .vmem, ⟨0, _⟩ => ⟨S16x384x3584, .fp8e4m3⟩
  | .local _ .vmem, ⟨1, _⟩ => ⟨S16x384, .f32⟩
  | .local _ .vmem, ⟨2, _⟩ => ⟨S18944x3584, .f32⟩
  | .local _ .vmem, ⟨3, _⟩ => ⟨S18944x28, .f32⟩
  | .local _ .vmem, ⟨4, _⟩ => ⟨S18944x28, .f32⟩
  | .local _ .vmem, ⟨5, _⟩ => ⟨S16x384x18944, .bf16⟩
  | .local _ .vmem, ⟨6, _⟩ => ⟨S18944x28, .f32⟩
  | .local _ .vmem, ⟨7, _⟩ => ⟨S18944x28, .f32⟩
  | .local _ .vmem, ⟨8, _⟩ => ⟨S1x1, .f32⟩
  | .local _ .vmem, ⟨9, _⟩ => ⟨S18944x3584, .i8⟩
  | .local _ .vmem, ⟨10, _⟩ => ⟨S18944x28, .f32⟩
  | .local _ .vmem, ⟨11, _⟩ => ⟨S18944x28, .f32⟩
  | _, _ => ⟨S16x384x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16x384x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18944x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18944x28 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x384x18944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18944x28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S18944x28 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S18944x3584 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S18944x28 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S18944x28 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KRuns.lean ====
/- What the two runs of the kernel's body share: the branch condition, the staging memrefs, the scratch memrefs. -/
module

public import proofs.«01_k».proof.Proof.Gen.KernelIdeal.Frame
public import proofs.«01_k».proof.Proof.Gen.KernelIdeal.Loops
public import Idealize.ShloMosaic.Lib.Exec
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 74 = 0 :=
  (fun t => by
    have ht : t.val < 74 := Nat.lt_of_lt_of_eq t.isLt N_0
    have e0 : (grid0.coords t 0).val = t.val / 1 % 74 := Pipeline.Grid.coords_val t 0 (by decide) rfl
    simp only [cond0_0, e0]
    word_cmp
   : ∀ t : Fin grid0.N, cond0_0 (grid0.coords t) ↔ t.val % 74 = 0)

/-! ## The kernel body on any staging memrefs: a subtype the run finds -/

/-- Each window's current staging memref at point `t`, spelled as the pipeline passes it (`bodyAt0`), and its wholeness. -/
abbrev ms0_0 (t : Fin cfg0.N) : Memref sig .tc .vmem S6144x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3584 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x28 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x28 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6144x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x28 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x28 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x3584 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x28 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x28 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S256x3584 .bf16 := Memref.whole cc0_scratch0
abbrev scM0_1 : Memref sig .tc .vmem S256x6144 .bf16 := Memref.whole cc0_scratch1
abbrev scM0_2 : Memref sig .tc .vmem S256x3584 .f32 := Memref.whole cc0_scratch2
abbrev scM0_3 : Memref sig .tc .vmem S256x3584 .bf16 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S256x128 .f32 := Memref.whole cc0_scratch6
abbrev scM0_7 : Memref sig .tc .vmem S256x128 .f32 := Memref.whole cc0_scratch7
abbrev scM0_8 : Memref sig .tc .vmem S256x128 .f32 := Memref.whole cc0_scratch8

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Hand

end
-- ==== Proof.KSpec.lean ====
/- What one grid point of the kernel computes, as values: the twenty-eight groups' extremes, scales, codes and masks of
   one block of 256 output rows; the forward loop's loss and scaled errors; the backward loop's two sums per group; and
   the six blocks the point leaves. Stated for any float semantics, over the blocks the point reads. -/
module

public import proofs.«01_k».proof.Proof.Gen.KernelIdeal.Frame
public import proofs.«01_k».proof.Proof.Gen.KernelIdeal.Loops
public import Idealize.ShloMosaic.Lib.ValueIdx
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

/-! ## The twenty-eight groups of a block of rows -/

/-- Group `g`'s columns lie in the block. -/
theorem inbG (g : Fin 28) : ∀ a, (![0, 128 * g.val] : Fin 2 → ℕ) a + S256x128.size a ≤ S256x3584.size a := by
  intro a; have := g.isLt
  match a with
  | ⟨0, _⟩ => show 0 + 256 ≤ 256; omega
  | ⟨1, _⟩ => show 128 * g.val + 128 ≤ 3584; omega

/-- The rectangle of group `g`'s columns. -/
abbrev rectG (g : Fin 28) : Rect S256x3584 := Rect.unit (s := S256x3584) ![0, 128 * g.val] S256x128.size (inbG g)

/-- Column `g` of a (256, 28) block, spread over 128 lanes. -/
abbrev colG (g : Fin 28) (X : FVec F S256x28 .f32) : FVec F S256x128 .f32 :=
  broadcastTo S256x128 (shapeCast S256x1 (extractStridedSlice S256x1 ![0, g.val] X
    ⟨rfl, fun a => by
      have := g.isLt
      match a with
      | ⟨0, _⟩ => show 0 + 256 ≤ 256; omega
      | ⟨1, _⟩ => show g.val + 1 ≤ 28; omega⟩) shapeCasts_S256x1_S256x1) broadcasts_S256x1_S256x128

/-- A row statistic spread over 128 lanes. -/
abbrev rowB (X : FVec F S256 .f32) : FVec F S256x128 .f32 :=
  broadcastTo S256x128 (shapeCast S256x1 (shapeCast S256x1 X shapeCasts_S256_S256x1) shapeCasts_S256x1_S256x1)
    broadcasts_S256x1_S256x128

/-- The lane number of every element. -/
abbrev laneV : IVec S256x128 32 := iota .tc S256x128 32 [1] iota_S256x128_d1_w32

/-- Lane `g` of it is group `g`'s row maximum, for the first `n` groups. -/
def wmaxC (W : Fin 28 → FVec F S256x128 .f32) : (n : ℕ) → n ≤ 28 → FVec F S256x128 .f32
  | 0, _ => broadcast S256x128 (Scalar.ofBits .f32 0x00000000#32)
  | n + 1, h => select (cmpi .eq laneV (broadcast S256x128 (BitVec.ofNat 32 n)))
      (rowB (multiReduction .maximumf [1] S256 (W ⟨n, h⟩) 0xFF800000#32 reduces_S256x128_S256 (.inl rfl) rfl))
      (wmaxC W n (Nat.le_of_succ_le h))

/-- Lane `g` of it is group `g`'s row minimum, for the first `n` groups. -/
def wminC (W : Fin 28 → FVec F S256x128 .f32) : (n : ℕ) → n ≤ 28 → FVec F S256x128 .f32
  | 0, _ => broadcast S256x128 (Scalar.ofBits .f32 0x00000000#32)
  | n + 1, h => select (cmpi .eq laneV (broadcast S256x128 (BitVec.ofNat 32 n)))
      (rowB (multiReduction .minimumf [1] S256 (W ⟨n, h⟩) 0x7F800000#32 reduces_S256x128_S256 (.inl rfl) rfl))
      (wminC W n (Nat.le_of_succ_le h))

section Groups
variable (W : Fin 28 → FVec F S256x128 .f32) (ga be : FVec F S256x28 .f32)

/-- The scale `h` of every group, from the groups' columns `W` and the two clipping parameters. -/
abbrev hP : FVec F S256x28 .f32 := k0_pay47 (wmaxC W 28 le_rfl) (wminC W 28 le_rfl) ga be
/-- `lo / h` of every group. -/
abbrev lohP : FVec F S256x28 .f32 := k0_pay48 (wmaxC W 28 le_rfl) (wminC W 28 le_rfl) ga be
/-- The zero point of every group. -/
abbrev zP : FVec F S256x28 .f32 := k0_pay49 (wmaxC W 28 le_rfl) (wminC W 28 le_rfl) ga be

variable (h z loh : FVec F S256x28 .f32) (g : Fin 28)

/-- Group `g`'s unrounded code. -/
abbrev uP : FVec F S256x128 .f32 := divf (W g) (colG g h)
/-- Group `g`'s code before the clip. -/
abbrev cP : FVec F S256x128 .f32 := addf (roundeven (uP W h g)) (colG g z)
/-- Group `g`'s code as a float. -/
abbrev qfP : FVec F S256x128 .f32 := minimumf (broadcast S256x128 (Scalar.ofBits .f32 0x41700000#32))
  (maximumf (broadcast S256x128 (Scalar.ofBits .f32 0x00000000#32)) (cP W h z g))
/-- Group `g`'s code minus its zero point. -/
abbrev qzP : FVec F S256x128 .f32 := subf (qfP W h z g) (colG g z)
/-- Where group `g`'s code is not clipped. -/
abbrev inP : IVec S256x128 1 := andi (cmpf .oge (cP W h z g) (broadcast S256x128 (Scalar.ofBits .f32 0x00000000#32)))
  (cmpf .ole (cP W h z g) (broadcast S256x128 (Scalar.ofBits .f32 0x41700000#32)))
/-- Group `g`'s dequantised weights. -/
abbrev whatP : FVec F S256x128 .bf16 := shapeCast S256x128 (truncf .bf16 (mulf (qzP W h z g) (colG g h)) bitsLt_bf16_f32)
  shapeCasts_S256x128_S256x128
/-- Group `g`'s integer codes. -/
abbrev qP : IVec S256x128 8 := fptosi 8 (qfP W h z g)
/-- The factor of group `g`'s gradient in the scale's sum. -/
abbrev dP : FVec F S256x128 .f32 := shapeCast S256x128 (subf (qzP W h z g) (select (inP W h z g) (uP W h g) (colG g loh)))
  shapeCasts_S256x128_S256x128
/-- One where group `g`'s code is clipped. -/
abbrev omP : FVec F S256x128 .bf16 := shapeCast S256x128 (truncf .bf16 (select (inP W h z g)
  (broadcast S256x128 (Scalar.ofBits .f32 0x00000000#32)) (broadcast S256x128 (Scalar.ofBits .f32 0x3F800000#32)))
  bitsLt_bf16_f32) shapeCasts_S256x128_S256x128

end Groups

/-- The pieces a per-group store leaves, the last group first. -/
def piecesG {e : EltTy} (P : Fin 28 → S256x128.Idx → Elt F e) : (n : ℕ) → n ≤ 28 → List (View.Piece (Elt F) S256x3584 e)
  | 0, _ => []
  | n + 1, h => ⟨rectG ⟨n, h⟩, P ⟨n, h⟩⟩ :: piecesG P n (Nat.le_of_succ_le h)

/-- The (256, 3584) block whose group `g` is `P g`. -/
def glueG {e : EltTy} (P : Fin 28 → S256x128.Idx → Elt F e) : S256x3584.Idx → Elt F e := fun y =>
  P ⟨(y 1).val / 128, by have : (y 1).val < 3584 := (y 1).isLt; omega⟩
    (ix2 (y 0) ⟨(y 1).val % 128, Nat.mod_lt _ (by norm_num)⟩)

/-- The first `n` groups' pieces are tiles of the glued block. -/
theorem piecesG_agree {e : EltTy} (P : Fin 28 → S256x128.Idx → Elt F e) : ∀ (n : ℕ) (h : n ≤ 28),
    ∀ p ∈ piecesG P n h, ∀ x : p.1.shape.Idx, p.2 x = glueG P (p.1.emb x)
  | 0, _, p, hp => by simp [piecesG] at hp
  | n + 1, h, p, hp => by
    rcases List.mem_cons.mp hp with rfl | hp
    · intro x
      have hx : (x 1).val < 128 := (x 1).isLt
      have e1 : ((rectG ⟨n, h⟩).emb x 1).val = 128 * n + 1 * (x 1).val := rfl
      have e0 : ((rectG ⟨n, h⟩).emb x 0).val = 0 + 1 * (x 0).val := rfl
      have hg : (⟨((rectG ⟨n, h⟩).emb x 1).val / 128, by rw [e1]; omega⟩ : Fin 28) = ⟨n, h⟩ := Fin.ext (by show ((rectG ⟨n, h⟩).emb x 1).val / 128 = n; omega)
      unfold glueG
      rw [hg]
      refine congrArg (P ⟨n, h⟩) (funext fun a => ?_)
      match a with
      | ⟨0, _⟩ => exact Fin.ext (by show (x 0).val = ((rectG ⟨n, h⟩).emb x 0).val; rw [e0]; omega)
      | ⟨1, _⟩ => exact Fin.ext (by show (x 1).val = ((rectG ⟨n, h⟩).emb x 1).val % 128; rw [e1]; omega)
    · exact piecesG_agree P n _ p hp

/-- Every group's piece is among them. -/
theorem piecesG_mem {e : EltTy} (P : Fin 28 → S256x128.Idx → Elt F e) : ∀ (n : ℕ) (h : n ≤ 28) (g : Fin 28), g.val < n →
    (⟨rectG g, P g⟩ : View.Piece (Elt F) S256x3584 e) ∈ piecesG P n h
  | 0, _, g, hg => absurd hg (Nat.not_lt_zero _)
  | n + 1, h, g, hg => by
    by_cases e : g.val = n
    · obtain rfl : g = ⟨n, h⟩ := Fin.ext e
      exact List.mem_cons_self
    · exact List.mem_cons_of_mem _ (piecesG_mem P n _ g (by omega))

/-- The twenty-eight pieces leave the glued block. -/
theorem canon_piecesG {e : EltTy} (P : Fin 28 → S256x128.Idx → Elt F e) : View.canon (piecesG P 28 le_rfl) = glueG P := by
  funext y
  have h0 : (y 0).val < 256 := (y 0).isLt
  have h1 : (y 1).val < 3584 := (y 1).isLt
  refine View.canon_apply_of_pieces (glueG P) _ (piecesG_agree P 28 le_rfl) y
    ⟨_, piecesG_mem P 28 le_rfl ⟨(y 1).val / 128, by omega⟩ (by show (y 1).val / 128 < 28; omega), ?_⟩
  refine (Rect.mem_set_unit (inb := inbG ⟨(y 1).val / 128, by omega⟩)).mpr fun a => ?_
  match a with
  | ⟨0, _⟩ => exact ⟨Nat.zero_le _, by show (y 0).val < 0 + 256; omega⟩
  | ⟨1, _⟩ => exact ⟨by show 128 * ((y 1).val / 128) ≤ (y 1).val; omega, by show (y 1).val < 128 * ((y 1).val / 128) + 128; omega⟩

/-! ## The forward loop -/

section Forward
variable (what : Vec F S256x3584 .bf16) (x0 : Vec F S6144x3584 .fp8e4m3) (x1 : Vec F S1x6144 .f32) (x5 : Vec F S6144x256 .bf16)

/-- Trip `k`'s tokens' codes, scales and outputs. -/
abbrev xrow (k : Fin k0_t1_loop.trips) : Vec F S512x3584 .fp8e4m3 := View.ld x0 (Rect.unit (s := S6144x3584) (k0_off1 k) S512x3584.size (k0_off1_inb k))
abbrev xsrow (k : Fin k0_t1_loop.trips) : Vec F S1x512 .f32 := View.ld x1 (Rect.unit (s := S1x6144) (k0_off2 k) S1x512.size (k0_off2_inb k))
abbrev yrow (k : Fin k0_t1_loop.trips) : Vec F S512x256 .bf16 := View.ld x5 (Rect.unit (s := S6144x256) (k0_off3 k) S512x256.size (k0_off3_inb k))

/-- The loss block after the first `k` trips, started from `l0`. -/
def lossF (l0 : Vec F S8x128 .f32) : ℕ → Vec F S8x128 .f32
  | 0 => l0
  | k + 1 => if h : k < k0_t1_loop.trips then
      k0_pay390 what (xrow x0 ⟨k, h⟩) (xsrow x1 ⟨k, h⟩) (yrow x5 ⟨k, h⟩) (lossF l0 k)
    else lossF l0 k

/-- The forward loop makes twelve trips. -/
theorem trips1 : k0_t1_loop.trips = 12 := by decide +kernel
/-- The backward loop makes seven trips. -/
theorem trips2 : k0_t2_loop.trips = 7 := by decide +kernel

/-- The scaled errors of the block's rows against every token. -/
def eV : Vec F S256x6144 .bf16 := fun y =>
  let k : Fin k0_t1_loop.trips := ⟨(y 1).val / 512, by have : (y 1).val < 6144 := (y 1).isLt; rw [trips1]; omega⟩
  k0_pay391 what (xrow x0 k) (xsrow x1 k) (yrow x5 k) (ix2 (y 0) ⟨(y 1).val % 512, Nat.mod_lt _ (by norm_num)⟩)

end Forward

/-! ## The backward loop -/

section Backward
variable (e : Vec F S256x6144 .bf16) (x0 : Vec F S6144x3584 .fp8e4m3) (d : Vec F S256x3584 .f32) (om : Vec F S256x3584 .bf16)

/-- Trip `k`'s columns of the codes, and of the two factor blocks. -/
abbrev xcol (k : Fin k0_t2_loop.trips) : Vec F S6144x512 .fp8e4m3 := View.ld x0 (Rect.unit (s := S6144x3584) (k0_off5 k) S6144x512.size (k0_off5_inb k))
abbrev dcol (k : Fin k0_t2_loop.trips) : Vec F S256x512 .f32 := View.ld d (Rect.unit (s := S256x3584) (k0_off6 k) S256x512.size (k0_off6_inb k))
abbrev omcol (k : Fin k0_t2_loop.trips) : Vec F S256x512 .bf16 := View.ld om (Rect.unit (s := S256x3584) (k0_off6 k) S256x512.size (k0_off6_inb k))

/-- One trip's update of the scale sums' block. -/
abbrev shStep (k : Fin k0_t2_loop.trips) (sh : Vec F S256x128 .f32) : Vec F S256x128 .f32 :=
  k0_pay12 laneV (Scf.iv 0#32 1#32 k) (k0_pay3 e (xcol x0 k) (dcol d k))
    (k0_pay6 laneV 0#32 1#32 k e (xcol x0 k) (dcol d k) sh) (k0_pay8 laneV 0#32 1#32 k) (k0_pay9 e (xcol x0 k) (dcol d k))

/-- One trip's update of the clip sums' block. -/
abbrev scStep (k : Fin k0_t2_loop.trips) (sc : Vec F S256x128 .f32) : Vec F S256x128 .f32 :=
  k0_pay13 laneV (Scf.iv 0#32 1#32 k) (k0_pay4 e (xcol x0 k) (omcol om k))
    (k0_pay7 laneV 0#32 1#32 k e (xcol x0 k) (omcol om k) sc) (k0_pay8 laneV 0#32 1#32 k)

/-- The scale sums' block after the first `k` trips. -/
def shF : ℕ → Vec F S256x128 .f32
  | 0 => k0_pay392
  | k + 1 => if h : k < k0_t2_loop.trips then shStep e x0 d ⟨k, h⟩ (shF k) else shF k

/-- The clip sums' block after the first `k` trips. -/
def scF : ℕ → Vec F S256x128 .f32
  | 0 => k0_pay393
  | k + 1 => if h : k < k0_t2_loop.trips then scStep e x0 om ⟨k, h⟩ (scF k) else scF k

end Backward

/-! ## What one grid point leaves -/

section Point
variable (x0 : Vec F S6144x3584 .fp8e4m3) (x1 : Vec F S1x6144 .f32) (x2 : Vec F S256x3584 .f32) (x3 x4 : Vec F S256x28 .f32)
  (x5 : Vec F S6144x256 .bf16)

/-- The groups' columns of a block of weights. -/
abbrev WG (g : Fin 28) : FVec F S256x128 .f32 := View.ld x2 (rectG g)

/-- A (256, 28) block as the point's load of it reads. -/
abbrev ld28 (x : Vec F S256x28 .f32) : FVec F S256x28 .f32 := View.ld x (Rect.unit (s := S256x28) ![0, 0] S256x28.size inb_S256x28_S256x28_0_0)

abbrev hS : FVec F S256x28 .f32 := hP (WG x2) (ld28 x3) (ld28 x4)
abbrev lohS : FVec F S256x28 .f32 := lohP (WG x2) (ld28 x3) (ld28 x4)
abbrev zS : FVec F S256x28 .f32 := zP (WG x2) (ld28 x3) (ld28 x4)
abbrev whatS : Vec F S256x3584 .bf16 := glueG (F := F) (e := .bf16) (whatP (WG x2) (hS x2 x3 x4) (zS x2 x3 x4))
abbrev qS : Vec F S256x3584 .i8 := glueG (F := F) (e := .i8) (qP (WG x2) (hS x2 x3 x4) (zS x2 x3 x4))
abbrev dS : Vec F S256x3584 .f32 := glueG (F := F) (e := .f32) (dP (WG x2) (hS x2 x3 x4) (zS x2 x3 x4) (lohS x2 x3 x4))
abbrev omS : Vec F S256x3584 .bf16 := glueG (F := F) (e := .bf16) (omP (WG x2) (hS x2 x3 x4) (zS x2 x3 x4))
abbrev eS : Vec F S256x6144 .bf16 := eV (whatS x2 x3 x4) x0 x1 x5
abbrev lossS (l0 : Vec F S8x128 .f32) : Vec F S8x128 .f32 := lossF (whatS x2 x3 x4) x0 x1 x5 l0 12
/-- The first 28 lanes of the two sums' blocks. -/
abbrev shS : FVec F S256x28 .f32 := View.ld (shF (eS x0 x1 x2 x3 x4 x5) x0 (dS x2 x3 x4) 7) (Rect.unit (s := S256x128) ![0, 0] S256x28.size inb_S256x128_S256x28_0_0)
abbrev scS : FVec F S256x28 .f32 := View.ld (scF (eS x0 x1 x2 x3 x4 x5) x0 (omS x2 x3 x4) 7) (Rect.unit (s := S256x128) ![0, 0] S256x28.size inb_S256x128_S256x28_0_0)
/-- The gradient of the upper clipping parameter. -/
def dgS : Vec F S256x28 .f32 := k0_pay396 (k0_pay42 (wmaxC (WG x2) 28 le_rfl)) (k0_pay44 (ld28 x3)) (shS x0 x1 x2 x3 x4 x5)
/-- The gradient of the lower clipping parameter. -/
def dbS : Vec F S256x28 .f32 := k0_pay1 (k0_pay43 (wminC (WG x2) 28 le_rfl)) (k0_pay45 (ld28 x4)) (k0_pay394 (shS x0 x1 x2 x3 x4 x5)) (k0_pay395 (scS x0 x1 x2 x3 x4 x5))

end Point

end Cert.KernelIdeal.Hand

end
-- ==== Proof.KLoops.lean ====
/- What the kernel body's two loops leave: the loss block and the scaled errors after the forward loop, the two sums'
   blocks after the backward loop, as the folds of `KSpec`. -/
module

public import proofs.«01_k».proof.Proof.KSpec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

/-- The zero offsets of a rank-2 rectangle, however they are spelt. -/
theorem off00 : (![0, 0] : Fin 2 → ℕ) = fun _ => 0 := by
  funext a; match a with | ⟨0, _⟩ => rfl | ⟨1, _⟩ => rfl

section Whole
variable {sig' : RefSig} {κ : Kind} {sp : Space} {s : Shape} {e : EltTy} {Val : EltTy → Type}

/-- A store through the whole rectangle, last, leaves its payload. -/
theorem read_writes_whole (v : View sig' κ sp s e) (f : v.ty.Contents Val) {off : Fin s.rank → ℕ} (h : off = fun _ => 0)
    (inb : ∀ a, off a + s.size a ≤ s.size a) (w : s.Idx → Val e) (L : List (View.Piece Val s e)) :
    v.read Val (v.writes Val f ((⟨Rect.unit off s.size inb, w⟩ : View.Piece Val s e) :: L)) = w := by
  subst h; funext y
  have E := View.read_writes_cons_emb v f (Rect.whole s) w L y
  rw [Rect.emb_whole_apply] at E
  exact E

/-- A load through the whole rectangle reads the contents. -/
theorem readAt_whole (v : View sig' κ sp s e) (f : v.ty.Contents Val) {off : Fin s.rank → ℕ} (h : off = fun _ => 0)
    (inb : ∀ a, off a + s.size a ≤ s.size a) : v.readAt Val (Rect.unit off s.size inb).toLoadRect f = v.read Val f := by
  rw [View.readAt_eq_ld]; exact View.ld_unit_zero h inb _

end Whole

/-- The scaled errors at a token of trip `k`. -/
theorem eV_at (what : Vec F S256x3584 .bf16) (x0 : Vec F S6144x3584 .fp8e4m3) (x1 : Vec F S1x6144 .f32) (x5 : Vec F S6144x256 .bf16)
    (k : Fin k0_t1_loop.trips) (x : S256x512.Idx) (y : S256x6144.Idx) (h0 : (y 0).val = (x 0).val) (h1 : (y 1).val = 512 * k.val + (x 1).val) :
    eV what x0 x1 x5 y = k0_pay391 what (xrow x0 k) (xsrow x1 k) (yrow x5 k) x := by
  have hx2 : (x 1).val < 512 := (x 1).isLt
  have ek : (⟨(y 1).val / 512, by have : (y 1).val < 6144 := (y 1).isLt; rw [trips1]; omega⟩ : Fin k0_t1_loop.trips) = k :=
    Fin.ext (by show (y 1).val / 512 = k.val; omega)
  have ex : (ix2 (y 0) ⟨(y 1).val % 512, Nat.mod_lt _ (by norm_num)⟩ : S256x512.Idx) = x := by
    funext a
    match a with
    | ⟨0, _⟩ => exact Fin.ext h0
    | ⟨1, _⟩ => exact Fin.ext (by show (y 1).val % 512 = (x 1).val; omega)
  unfold eV
  rw [ek, ex]

section Trip1
variable (𝒱 : Variants) (c : Dev nD) (bd : Option 𝒱.V) (i : grid0.Coords) (arg1 : Memref sig .tc .vmem S6144x3584 .fp8e4m3) (harg1 : arg1.IsWhole) (arg2 : Memref sig .tc .vmem S1x6144 .f32) (harg2 : arg2.IsWhole) (arg3 : Memref sig .tc .vmem S256x3584 .f32) (harg3 : arg3.IsWhole) (arg4 : Memref sig .tc .vmem S256x28 .f32) (harg4 : arg4.IsWhole) (arg5 : Memref sig .tc .vmem S256x28 .f32) (harg5 : arg5.IsWhole) (arg6 : Memref sig .tc .vmem S6144x256 .bf16) (harg6 : arg6.IsWhole) (arg7 : Memref sig .tc .vmem S256x28 .f32) (harg7 : arg7.IsWhole) (arg8 : Memref sig .tc .vmem S256x28 .f32) (harg8 : arg8.IsWhole) (arg9 : Memref sig .tc .vmem S8x128 .f32) (harg9 : arg9.IsWhole) (arg10 : Memref sig .tc .vmem S256x3584 .i8) (harg10 : arg10.IsWhole) (arg11 : Memref sig .tc .vmem S256x28 .f32) (harg11 : arg11.IsWhole) (arg12 : Memref sig .tc .vmem S256x28 .f32) (harg12 : arg12.IsWhole) (arg13 : Memref sig .tc .vmem S256x3584 .bf16) (harg13 : arg13.IsWhole) (arg14 : Memref sig .tc .vmem S256x6144 .bf16) (harg14 : arg14.IsWhole) (arg15 : Memref sig .tc .vmem S256x3584 .f32) (harg15 : arg15.IsWhole) (arg16 : Memref sig .tc .vmem S256x3584 .bf16) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole)
  (v0 : IVec S256x128 32) (v1589 : FVec F S256x128 .f32) (v1591 : FVec F S256x128 .f32) (v1597 : FVec F S256x128 .f32) (v1598 : FVec F S256x128 .f32) (v1603 : IVec S256x128 1) (v1605 : FVec F S256x128 .bf16)
  (X_arg1 : BufTy.Contents (Elt F) arg1.view.ty) (X_arg2 : BufTy.Contents (Elt F) arg2.view.ty) (X_arg6 : BufTy.Contents (Elt F) arg6.view.ty) (X_arg13 : BufTy.Contents (Elt F) arg13.view.ty) (G_arg9 : BufTy.Contents (Elt F) arg9.view.ty) (G_arg14 : BufTy.Contents (Elt F) arg14.view.ty)

/-- One forward trip's stores: the loss block with the trip's squares added, and the trip's columns of scaled errors. -/
theorem trip1_eq (k : Fin k0_t1_loop.trips) (f9 : BufTy.Contents (Elt F) arg9.view.ty) (f14 : BufTy.Contents (Elt F) arg14.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v1589 v1591 v1597 v1598 v1603 v1605 X_arg1 X_arg2 X_arg6 X_arg13 k f9 f14
      = ([⟨Rect.unit (s := S8x128) ![0, 0] S8x128.size inb_S8x128_S8x128_0_0,
            k0_pay390 (arg13.view.readAt (Elt F) (Rect.unit (s := S256x3584) ![0, 0] S256x3584.size inb_S256x3584_S256x3584_0_0).toLoadRect X_arg13)
              (xrow (arg1.view.read (Elt F) X_arg1) k) (xsrow (arg2.view.read (Elt F) X_arg2) k) (yrow (arg6.view.read (Elt F) X_arg6) k)
              (arg9.view.readAt (Elt F) (Rect.unit (s := S8x128) ![0, 0] S8x128.size inb_S8x128_S8x128_0_0).toLoadRect f9)⟩],
         [⟨Rect.unit (s := S256x6144) (k0_off4 k) S256x512.size (k0_off4_inb k),
            k0_pay391 (arg13.view.readAt (Elt F) (Rect.unit (s := S256x3584) ![0, 0] S256x3584.size inb_S256x3584_S256x3584_0_0).toLoadRect X_arg13)
              (xrow (arg1.view.read (Elt F) X_arg1) k) (xsrow (arg2.view.read (Elt F) X_arg2) k) (yrow (arg6.view.read (Elt F) X_arg6) k)⟩]) := by
  unfold tripL_k0_t1 trip_k0_t1; rfl

/-- After `k` forward trips the loss block is `lossF`, and the scaled errors of the trips' tokens are `eV`. -/
theorem loop1_eq : ∀ (k : ℕ), k ≤ k0_t1_loop.trips →
    arg9.view.read (Elt F) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v1589 v1591 v1597 v1598 v1603 v1605 X_arg1 X_arg2 X_arg6 X_arg13 G_arg9 G_arg14 k).1)
      = lossF (arg13.view.read (Elt F) X_arg13) (arg1.view.read (Elt F) X_arg1) (arg2.view.read (Elt F) X_arg2) (arg6.view.read (Elt F) X_arg6) (arg9.view.read (Elt F) G_arg9) k
    ∧ ∀ y : S256x6144.Idx, (y 1).val < 512 * k →
      arg14.view.read (Elt F) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v1589 v1591 v1597 v1598 v1603 v1605 X_arg1 X_arg2 X_arg6 X_arg13 G_arg9 G_arg14 k).2) y
        = eV (arg13.view.read (Elt F) X_arg13) (arg1.view.read (Elt F) X_arg1) (arg2.view.read (Elt F) X_arg2) (arg6.view.read (Elt F) X_arg6) y
  | 0, _ => ⟨rfl, fun y hy => absurd hy (by omega)⟩
  | k + 1, hk => by
    obtain ⟨i1, i2⟩ := loop1_eq k (by omega)
    have es := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v1589 v1591 v1597 v1598 v1603 v1605 X_arg1 X_arg2 X_arg6 X_arg13 G_arg9 G_arg14 ⟨k, hk⟩
    rw [trip1_eq] at es
    rw [show k + 1 = (⟨k, hk⟩ : Fin k0_t1_loop.trips).val + 1 from rfl, es]
    clear es; dsimp only
    refine ⟨?_, fun y hy => ?_⟩
    · rw [List.singleton_append, read_writes_whole _ _ off00, readAt_whole _ _ off00, readAt_whole _ _ off00, i1]
      show _ = lossF _ _ _ _ _ (k + 1)
      rw [lossF, dif_pos (show k < k0_t1_loop.trips from hk)]
    · rw [List.singleton_append]
      have hy' : (y 1).val < 512 * (k + 1) := hy
      have h0 : (y 0).val < 256 := (y 0).isLt
      have o0 : k0_off4 ⟨k, hk⟩ 0 = 0 := congrFun (k0_off4_eq ⟨k, hk⟩) 0
      have o1 : k0_off4 ⟨k, hk⟩ 1 = 512 * k := congrFun (k0_off4_eq ⟨k, hk⟩) 1
      by_cases hlt : (y 1).val < 512 * k
      · rw [← i2 y hlt, View.writes_cons, View.read_slice_write_of_not_mem]
        rw [Rect.map_emb_univ, Rect.mem_set_unit]
        intro hc
        have : k0_off4 ⟨k, hk⟩ 1 ≤ (y 1).val := (hc 1).1
        omega
      · obtain ⟨x, hx⟩ : ∃ x : S256x512.Idx, (Rect.unit (s := S256x6144) (k0_off4 ⟨k, hk⟩) S256x512.size (k0_off4_inb ⟨k, hk⟩)).emb x = y := by
          refine ⟨ix2 (y 0) ⟨(y 1).val - 512 * k, by omega⟩, funext fun a => Fin.ext ?_⟩
          match a with
          | ⟨0, _⟩ => show k0_off4 ⟨k, hk⟩ 0 + 1 * (y 0).val = (y 0).val; omega
          | ⟨1, _⟩ => show k0_off4 ⟨k, hk⟩ 1 + 1 * ((y 1).val - 512 * k) = (y 1).val; omega
        have hx1 : (k0_off4 ⟨k, hk⟩) 1 + 1 * (x 1).val = (y 1).val := by rw [← hx]; rfl
        have hx0 : (k0_off4 ⟨k, hk⟩) 0 + 1 * (x 0).val = (y 0).val := by rw [← hx]; rfl
        refine (congrArg (View.read (Elt F) arg14.view _) hx.symm).trans ?_
        refine (View.read_writes_cons_emb arg14.view G_arg14 (Rect.unit (s := S256x6144) (k0_off4 ⟨k, hk⟩) S256x512.size (k0_off4_inb ⟨k, hk⟩)) _ _ x).trans ?_
        rw [readAt_whole _ _ off00]
        exact (eV_at _ _ _ _ ⟨k, hk⟩ x y (by omega) (by show (y 1).val = 512 * k + (x 1).val; omega)).symm

end Trip1

section Trip2
variable (𝒱 : Variants) (c : Dev nD) (bd : Option 𝒱.V) (i : grid0.Coords) (arg1 : Memref sig .tc .vmem S6144x3584 .fp8e4m3) (harg1 : arg1.IsWhole) (arg2 : Memref sig .tc .vmem S1x6144 .f32) (harg2 : arg2.IsWhole) (arg3 : Memref sig .tc .vmem S256x3584 .f32) (harg3 : arg3.IsWhole) (arg4 : Memref sig .tc .vmem S256x28 .f32) (harg4 : arg4.IsWhole) (arg5 : Memref sig .tc .vmem S256x28 .f32) (harg5 : arg5.IsWhole) (arg6 : Memref sig .tc .vmem S6144x256 .bf16) (harg6 : arg6.IsWhole) (arg7 : Memref sig .tc .vmem S256x28 .f32) (harg7 : arg7.IsWhole) (arg8 : Memref sig .tc .vmem S256x28 .f32) (harg8 : arg8.IsWhole) (arg9 : Memref sig .tc .vmem S8x128 .f32) (harg9 : arg9.IsWhole) (arg10 : Memref sig .tc .vmem S256x3584 .i8) (harg10 : arg10.IsWhole) (arg11 : Memref sig .tc .vmem S256x28 .f32) (harg11 : arg11.IsWhole) (arg12 : Memref sig .tc .vmem S256x28 .f32) (harg12 : arg12.IsWhole) (arg13 : Memref sig .tc .vmem S256x3584 .bf16) (harg13 : arg13.IsWhole) (arg14 : Memref sig .tc .vmem S256x6144 .bf16) (harg14 : arg14.IsWhole) (arg15 : Memref sig .tc .vmem S256x3584 .f32) (harg15 : arg15.IsWhole) (arg16 : Memref sig .tc .vmem S256x3584 .bf16) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole)
  (v0 : IVec S256x128 32) (v1589 : FVec F S256x128 .f32) (v1591 : FVec F S256x128 .f32) (v1597 : FVec F S256x128 .f32) (v1598 : FVec F S256x128 .f32) (v1603 : IVec S256x128 1) (v1605 : FVec F S256x128 .bf16)
  (X_arg1 : BufTy.Contents (Elt F) arg1.view.ty) (X_arg14 : BufTy.Contents (Elt F) arg14.view.ty) (X_arg15 : BufTy.Contents (Elt F) arg15.view.ty) (X_arg16 : BufTy.Contents (Elt F) arg16.view.ty) (G_arg20 : BufTy.Contents (Elt F) arg20.view.ty) (G_arg21 : BufTy.Contents (Elt F) arg21.view.ty)

/-- One backward trip's stores: the two sums' blocks, each with the trip's four groups' lanes set. -/
theorem trip2_eq (k : Fin k0_t2_loop.trips) (f20 : BufTy.Contents (Elt F) arg20.view.ty) (f21 : BufTy.Contents (Elt F) arg21.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 laneV v1589 v1591 v1597 v1598 v1603 v1605 X_arg1 X_arg14 X_arg15 X_arg16 k f20 f21
      = ([⟨Rect.unit (s := S256x128) ![0, 0] S256x128.size inb_S256x128_S256x128_0_0,
            shStep (arg14.view.readAt (Elt F) (Rect.unit (s := S256x6144) ![0, 0] S256x6144.size inb_S256x6144_S256x6144_0_0).toLoadRect X_arg14)
              (arg1.view.read (Elt F) X_arg1) (arg15.view.read (Elt F) X_arg15) k
              (arg20.view.readAt (Elt F) (Rect.unit (s := S256x128) ![0, 0] S256x128.size inb_S256x128_S256x128_0_0).toLoadRect f20)⟩],
         [⟨Rect.unit (s := S256x128) ![0, 0] S256x128.size inb_S256x128_S256x128_0_0,
            scStep (arg14.view.readAt (Elt F) (Rect.unit (s := S256x6144) ![0, 0] S256x6144.size inb_S256x6144_S256x6144_0_0).toLoadRect X_arg14)
              (arg1.view.read (Elt F) X_arg1) (arg16.view.read (Elt F) X_arg16) k
              (arg21.view.readAt (Elt F) (Rect.unit (s := S256x128) ![0, 0] S256x128.size inb_S256x128_S256x128_0_0).toLoadRect f21)⟩]) := by
  unfold tripL_k0_t2 trip_k0_t2; rfl

/-- After `k` backward trips the two sums' blocks are `shF` and `scF`, started from zeros. -/
theorem loop2_eq (h20 : arg20.view.read (Elt F) G_arg20 = k0_pay392) (h21 : arg21.view.read (Elt F) G_arg21 = k0_pay393) :
    ∀ (k : ℕ), k ≤ k0_t2_loop.trips →
    arg20.view.read (Elt F) (arg20.view.writes (Elt F) G_arg20 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 laneV v1589 v1591 v1597 v1598 v1603 v1605 X_arg1 X_arg14 X_arg15 X_arg16 G_arg20 G_arg21 k).1)
      = shF (arg14.view.read (Elt F) X_arg14) (arg1.view.read (Elt F) X_arg1) (arg15.view.read (Elt F) X_arg15) k
    ∧ arg21.view.read (Elt F) (arg21.view.writes (Elt F) G_arg21 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 laneV v1589 v1591 v1597 v1598 v1603 v1605 X_arg1 X_arg14 X_arg15 X_arg16 G_arg20 G_arg21 k).2)
      = scF (arg14.view.read (Elt F) X_arg14) (arg1.view.read (Elt F) X_arg1) (arg16.view.read (Elt F) X_arg16) k
  | 0, _ => ⟨h20, h21⟩
  | k + 1, hk => by
    obtain ⟨i1, i2⟩ := loop2_eq h20 h21 k (by omega)
    have es := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 laneV v1589 v1591 v1597 v1598 v1603 v1605 X_arg1 X_arg14 X_arg15 X_arg16 G_arg20 G_arg21 ⟨k, hk⟩
    rw [trip2_eq] at es
    rw [show k + 1 = (⟨k, hk⟩ : Fin k0_t2_loop.trips).val + 1 from rfl, es]
    clear es; dsimp only
    refine ⟨?_, ?_⟩
    · rw [List.singleton_append, read_writes_whole _ _ off00, readAt_whole _ _ off00, readAt_whole _ _ off00, i1]
      show _ = shF _ _ _ (k + 1)
      rw [shF, dif_pos (show k < k0_t2_loop.trips from hk)]
    · rw [List.singleton_append, read_writes_whole _ _ off00, readAt_whole _ _ off00, readAt_whole _ _ off00, i2]
      show _ = scF _ _ _ (k + 1)
      rw [scF, dif_pos (show k < k0_t2_loop.trips from hk)]

end Trip2

/-- Equal operands leave equal loss blocks. -/
theorem lossF_congr {w w' : Vec F S256x3584 .bf16} (x0 x1 x5) {l l' : Vec F S8x128 .f32} {n n' : ℕ} (hw : w = w') (hl : l = l') (hn : n = n') :
    lossF w x0 x1 x5 l n = lossF w' x0 x1 x5 l' n' := by subst hw hl hn; rfl

/-- Equal operands leave equal scale sums. -/
theorem shF_congr {e e' : Vec F S256x6144 .bf16} (x0) {d d' : Vec F S256x3584 .f32} {n n' : ℕ} (he : e = e') (hd : d = d') (hn : n = n') :
    shF e x0 d n = shF e' x0 d' n' := by subst he hd hn; rfl

/-- Equal operands leave equal clip sums. -/
theorem scF_congr {e e' : Vec F S256x6144 .bf16} (x0) {d d' : Vec F S256x3584 .bf16} {n n' : ℕ} (he : e = e') (hd : d = d') (hn : n = n') :
    scF e x0 d n = scF e' x0 d' n' := by subst he hd hn; rfl

end Cert.KernelIdeal.Hand

end
-- ==== Proof.KRunA.lean ====
/- The kernel body at a grid point that starts the loss block, run once: what it leaves in the six result windows, as the named
   functions of the blocks it reads. -/
module

public import proofs.«01_k».proof.Proof.KRuns
public import proofs.«01_k».proof.Proof.KSpec
public import proofs.«01_k».proof.Proof.KLoops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
theorem kernelRun0_A (c : Dev nD) (i : grid0.Coords) (arg1 : Memref sig .tc .vmem S6144x3584 .fp8e4m3) (harg1 : arg1.IsWhole) (arg2 : Memref sig .tc .vmem S1x6144 .f32) (harg2 : arg2.IsWhole) (arg3 : Memref sig .tc .vmem S256x3584 .f32) (harg3 : arg3.IsWhole) (arg4 : Memref sig .tc .vmem S256x28 .f32) (harg4 : arg4.IsWhole) (arg5 : Memref sig .tc .vmem S256x28 .f32) (harg5 : arg5.IsWhole) (arg6 : Memref sig .tc .vmem S6144x256 .bf16) (harg6 : arg6.IsWhole) (arg7 : Memref sig .tc .vmem S256x28 .f32) (harg7 : arg7.IsWhole) (arg8 : Memref sig .tc .vmem S256x28 .f32) (harg8 : arg8.IsWhole) (arg9 : Memref sig .tc .vmem S8x128 .f32) (harg9 : arg9.IsWhole) (arg10 : Memref sig .tc .vmem S256x3584 .i8) (harg10 : arg10.IsWhole) (arg11 : Memref sig .tc .vmem S256x28 .f32) (harg11 : arg11.IsWhole) (arg12 : Memref sig .tc .vmem S256x28 .f32) (harg12 : arg12.IsWhole) (arg13 : Memref sig .tc .vmem S256x3584 .bf16) (harg13 : arg13.IsWhole) (arg14 : Memref sig .tc .vmem S256x6144 .bf16) (harg14 : arg14.IsWhole) (arg15 : Memref sig .tc .vmem S256x3584 .f32) (harg15 : arg15.IsWhole) (arg16 : Memref sig .tc .vmem S256x3584 .bf16) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (hc0 : cond0_0 i)
    (x0 : Vec F S6144x3584 .fp8e4m3) (x1 : Vec F S1x6144 .f32) (x2 : Vec F S256x3584 .f32) (x3 : Vec F S256x28 .f32) (x4 : Vec F S256x28 .f32) (x5 : Vec F S6144x256 .bf16) (x8 : Vec F S8x128 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dgS x0 x1 x2 x3 x4 x5) ∗ owns (c : Thread nD τ) arg8 fullShare (dbS x0 x1 x2 x3 x4 x5) ∗ owns (c : Thread nD τ) arg9 fullShare (lossS x0 x1 x2 x3 x4 x5 k0_pay14) ∗ owns (c : Thread nD τ) arg10 fullShare (qS x2 x3 x4) ∗ owns (c : Thread nD τ) arg11 fullShare (hS x2 x3 x4) ∗ owns (c : Thread nD τ) arg12 fullShare (zS x2 x3 x4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_lwc_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_lwc_bwd_eq_skeleton]; unfold cc0_lwc_bwd_skel
    simp only [k0_part43_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    subst hf0 hf1 hf2 hf3 hf4 hf5
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro; refine (read_writes_whole _ _ off00 _ _ _).trans ?_
      refine (congrArg (k0_pay396 (F := F) _ _) ?_ : k0_pay396 (F := F) _ _ _ = k0_pay396 (F := F) _ _ _)
      refine congrArg (fun X => View.ld X _) ?_
      show View.read (Elt F) arg20.view (arg20.view.writes (Elt F) _ (_ ++ _)) = _
      rw [View.writes_append]; refine (loop2_eq _ _ _ _ _ _ _ _ _ _ _ _ _ _ _ _ _ _ _ _ _ _ _ _ _ _ _ _ _ _ _ _ _ _ _ _ _ _ _ _ _ _ _ _ _ _ _ _ _ _ _ _ _ _ _ _ _ _ (read_writes_whole _ _ off00 _ _ _) (read_writes_whole _ _ off00 _ _ _) _ le_rfl).1.trans (shF_congr _ (by funext y; refine ((loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).2 y (by have : (y 1).val < 6144 := (y 1).isLt; have e := trips1; omega)).trans ?_; exact congrArg (fun w => eV w _ _ _ y) (by rw [View.read_writes_junk_eq_canon]; refine (congrArg View.canon (?_ : _ = piecesG _ 28 le_rfl)).trans (canon_piecesG _); rfl)) (by rw [View.read_writes_junk_eq_canon]; refine (congrArg View.canon (?_ : _ = piecesG _ 28 le_rfl)).trans (canon_piecesG _); rfl) trips2)
    isplitl [H7]
    · iexists _; isplitr; swap; · iexact H7
      ipureintro; refine (read_writes_whole _ _ off00 _ _ _).trans ?_
      refine congrArg₂ (fun a b => k0_pay1 (F := F) _ _ (k0_pay394 (F := F) a) (k0_pay395 (F := F) b)) ?_ ?_
      · refine congrArg (fun X => View.ld X _) ?_
        show View.read (Elt F) arg20.view (arg20.view.writes (Elt F) _ (_ ++ _)) = _
        rw [View.writes_append]; refine (loop2_eq _ _ _ _ _ _ _ _ _ _ _ _ _ _ _ _ _ _ _ _ _ _ _ _ _ _ _ _ _ _ _ _ _ _ _ _ _ _ _ _ _ _ _ _ _ _ _ _ _ _ _ _ _ _ _ _ _ _ (read_writes_whole _ _ off00 _ _ _) (read_writes_whole _ _ off00 _ _ _) _ le_rfl).1.trans (shF_congr _ (by funext y; refine ((loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).2 y (by have : (y 1).val < 6144 := (y 1).isLt; have e := trips1; omega)).trans ?_; exact congrArg (fun w => eV w _ _ _ y) (by rw [View.read_writes_junk_eq_canon]; refine (congrArg View.canon (?_ : _ = piecesG _ 28 le_rfl)).trans (canon_piecesG _); rfl)) (by rw [View.read_writes_junk_eq_canon]; refine (congrArg View.canon (?_ : _ = piecesG _ 28 le_rfl)).trans (canon_piecesG _); rfl) trips2)
      · refine congrArg (fun X => View.ld X _) ?_
        show View.read (Elt F) arg21.view (arg21.view.writes (Elt F) _ (_ ++ _)) = _
        rw [View.writes_append]; refine (loop2_eq _ _ _ _ _ _ _ _ _ _ _ _ _ _ _ _ _ _ _ _ _ _ _ _ _ _ _ _ _ _ _ _ _ _ _ _ _ _ _ _ _ _ _ _ _ _ _ _ _ _ _ _ _ _ _ _ _ _ (read_writes_whole _ _ off00 _ _ _) (read_writes_whole _ _ off00 _ _ _) _ le_rfl).2.trans (scF_congr _ (by funext y; refine ((loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).2 y (by have : (y 1).val < 6144 := (y 1).isLt; have e := trips1; omega)).trans ?_; exact congrArg (fun w => eV w _ _ _ y) (by rw [View.read_writes_junk_eq_canon]; refine (congrArg View.canon (?_ : _ = piecesG _ 28 le_rfl)).trans (canon_piecesG _); rfl)) (by rw [View.read_writes_junk_eq_canon]; refine (congrArg View.canon (?_ : _ = piecesG _ 28 le_rfl)).trans (canon_piecesG _); rfl) trips2)
    isplitl [H8]
    · iexists _; isplitr; swap; · iexact H8
      ipureintro; rw [View.writes_append]; refine (loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).1.trans (lossF_congr _ _ _ (by rw [View.read_writes_junk_eq_canon]; refine (congrArg View.canon (?_ : _ = piecesG _ 28 le_rfl)).trans (canon_piecesG _); rfl) (read_writes_whole _ _ off00 _ _ _) trips1)
    isplitl [H9]
    · iexists _; isplitr; swap; · iexact H9
      ipureintro; rw [View.read_writes_junk_eq_canon]; refine (congrArg View.canon (?_ : _ = piecesG _ 28 le_rfl)).trans (canon_piecesG _); rfl
    isplitl [H10]
    · iexists _; isplitr; swap; · iexact H10
      ipureintro; rw [View.read_writes_junk_eq_canon]; refine (View.canon_cons_unit_zero off00 _ _ _).trans ?_; rfl
    isplitl [H11]
    · iexists _; isplitr; swap; · iexact H11
      ipureintro; rw [View.read_writes_junk_eq_canon]; refine (View.canon_cons_unit_zero off00 _ _ _).trans ?_; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal.Hand

end
-- ==== Proof.KRunB.lean ====
/- The kernel body at a grid point that adds to the loss block, run once: what it leaves in the six result windows, as the named
   functions of the blocks it reads. -/
module

public import proofs.«01_k».proof.Proof.KRuns
public import proofs.«01_k».proof.Proof.KSpec
public import proofs.«01_k».proof.Proof.KLoops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
theorem kernelRun0_B (c : Dev nD) (i : grid0.Coords) (arg1 : Memref sig .tc .vmem S6144x3584 .fp8e4m3) (harg1 : arg1.IsWhole) (arg2 : Memref sig .tc .vmem S1x6144 .f32) (harg2 : arg2.IsWhole) (arg3 : Memref sig .tc .vmem S256x3584 .f32) (harg3 : arg3.IsWhole) (arg4 : Memref sig .tc .vmem S256x28 .f32) (harg4 : arg4.IsWhole) (arg5 : Memref sig .tc .vmem S256x28 .f32) (harg5 : arg5.IsWhole) (arg6 : Memref sig .tc .vmem S6144x256 .bf16) (harg6 : arg6.IsWhole) (arg7 : Memref sig .tc .vmem S256x28 .f32) (harg7 : arg7.IsWhole) (arg8 : Memref sig .tc .vmem S256x28 .f32) (harg8 : arg8.IsWhole) (arg9 : Memref sig .tc .vmem S8x128 .f32) (harg9 : arg9.IsWhole) (arg10 : Memref sig .tc .vmem S256x3584 .i8) (harg10 : arg10.IsWhole) (arg11 : Memref sig .tc .vmem S256x28 .f32) (harg11 : arg11.IsWhole) (arg12 : Memref sig .tc .vmem S256x28 .f32) (harg12 : arg12.IsWhole) (arg13 : Memref sig .tc .vmem S256x3584 .bf16) (harg13 : arg13.IsWhole) (arg14 : Memref sig .tc .vmem S256x6144 .bf16) (harg14 : arg14.IsWhole) (arg15 : Memref sig .tc .vmem S256x3584 .f32) (harg15 : arg15.IsWhole) (arg16 : Memref sig .tc .vmem S256x3584 .bf16) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (hc0 : ¬cond0_0 i)
    (x0 : Vec F S6144x3584 .fp8e4m3) (x1 : Vec F S1x6144 .f32) (x2 : Vec F S256x3584 .f32) (x3 : Vec F S256x28 .f32) (x4 : Vec F S256x28 .f32) (x5 : Vec F S6144x256 .bf16) (x8 : Vec F S8x128 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dgS x0 x1 x2 x3 x4 x5) ∗ owns (c : Thread nD τ) arg8 fullShare (dbS x0 x1 x2 x3 x4 x5) ∗ owns (c : Thread nD τ) arg9 fullShare (lossS x0 x1 x2 x3 x4 x5 x8) ∗ owns (c : Thread nD τ) arg10 fullShare (qS x2 x3 x4) ∗ owns (c : Thread nD τ) arg11 fullShare (hS x2 x3 x4) ∗ owns (c : Thread nD τ) arg12 fullShare (zS x2 x3 x4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_lwc_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_lwc_bwd_eq_skeleton]; unfold cc0_lwc_bwd_skel
    simp only [k0_part43_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    subst hf0 hf1 hf2 hf3 hf4 hf5 hf8
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro; refine (read_writes_whole _ _ off00 _ _ _).trans ?_
      refine (congrArg (k0_pay396 (F := F) _ _) ?_ : k0_pay396 (F := F) _ _ _ = k0_pay396 (F := F) _ _ _)
      refine congrArg (fun X => View.ld X _) ?_
      show View.read (Elt F) arg20.view (arg20.view.writes (Elt F) _ (_ ++ _)) = _
      rw [View.writes_append]; refine (loop2_eq _ _ _ _ _ _ _ _ _ _ _ _ _ _ _ _ _ _ _ _ _ _ _ _ _ _ _ _ _ _ _ _ _ _ _ _ _ _ _ _ _ _ _ _ _ _ _ _ _ _ _ _ _ _ _ _ _ _ (read_writes_whole _ _ off00 _ _ _) (read_writes_whole _ _ off00 _ _ _) _ le_rfl).1.trans (shF_congr _ (by funext y; refine ((loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).2 y (by have : (y 1).val < 6144 := (y 1).isLt; have e := trips1; omega)).trans ?_; exact congrArg (fun w => eV w _ _ _ y) (by rw [View.read_writes_junk_eq_canon]; refine (congrArg View.canon (?_ : _ = piecesG _ 28 le_rfl)).trans (canon_piecesG _); rfl)) (by rw [View.read_writes_junk_eq_canon]; refine (congrArg View.canon (?_ : _ = piecesG _ 28 le_rfl)).trans (canon_piecesG _); rfl) trips2)
    isplitl [H7]
    · iexists _; isplitr; swap; · iexact H7
      ipureintro; refine (read_writes_whole _ _ off00 _ _ _).trans ?_
      refine congrArg₂ (fun a b => k0_pay1 (F := F) _ _ (k0_pay394 (F := F) a) (k0_pay395 (F := F) b)) ?_ ?_
      · refine congrArg (fun X => View.ld X _) ?_
        show View.read (Elt F) arg20.view (arg20.view.writes (Elt F) _ (_ ++ _)) = _
        rw [View.writes_append]; refine (loop2_eq _ _ _ _ _ _ _ _ _ _ _ _ _ _ _ _ _ _ _ _ _ _ _ _ _ _ _ _ _ _ _ _ _ _ _ _ _ _ _ _ _ _ _ _ _ _ _ _ _ _ _ _ _ _ _ _ _ _ (read_writes_whole _ _ off00 _ _ _) (read_writes_whole _ _ off00 _ _ _) _ le_rfl).1.trans (shF_congr _ (by funext y; refine ((loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).2 y (by have : (y 1).val < 6144 := (y 1).isLt; have e := trips1; omega)).trans ?_; exact congrArg (fun w => eV w _ _ _ y) (by rw [View.read_writes_junk_eq_canon]; refine (congrArg View.canon (?_ : _ = piecesG _ 28 le_rfl)).trans (canon_piecesG _); rfl)) (by rw [View.read_writes_junk_eq_canon]; refine (congrArg View.canon (?_ : _ = piecesG _ 28 le_rfl)).trans (canon_piecesG _); rfl) trips2)
      · refine congrArg (fun X => View.ld X _) ?_
        show View.read (Elt F) arg21.view (arg21.view.writes (Elt F) _ (_ ++ _)) = _
        rw [View.writes_append]; refine (loop2_eq _ _ _ _ _ _ _ _ _ _ _ _ _ _ _ _ _ _ _ _ _ _ _ _ _ _ _ _ _ _ _ _ _ _ _ _ _ _ _ _ _ _ _ _ _ _ _ _ _ _ _ _ _ _ _ _ _ _ (read_writes_whole _ _ off00 _ _ _) (read_writes_whole _ _ off00 _ _ _) _ le_rfl).2.trans (scF_congr _ (by funext y; refine ((loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).2 y (by have : (y 1).val < 6144 := (y 1).isLt; have e := trips1; omega)).trans ?_; exact congrArg (fun w => eV w _ _ _ y) (by rw [View.read_writes_junk_eq_canon]; refine (congrArg View.canon (?_ : _ = piecesG _ 28 le_rfl)).trans (canon_piecesG _); rfl)) (by rw [View.read_writes_junk_eq_canon]; refine (congrArg View.canon (?_ : _ = piecesG _ 28 le_rfl)).trans (canon_piecesG _); rfl) trips2)
    isplitl [H8]
    · iexists _; isplitr; swap; · iexact H8
      ipureintro; refine (loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).1.trans (lossF_congr _ _ _ (by rw [View.read_writes_junk_eq_canon]; refine (congrArg View.canon (?_ : _ = piecesG _ 28 le_rfl)).trans (canon_piecesG _); rfl) rfl trips1)
    isplitl [H9]
    · iexists _; isplitr; swap; · iexact H9
      ipureintro; rw [View.read_writes_junk_eq_canon]; refine (congrArg View.canon (?_ : _ = piecesG _ 28 le_rfl)).trans (canon_piecesG _); rfl
    isplitl [H10]
    · iexists _; isplitr; swap; · iexact H10
      ipureintro; rw [View.read_writes_junk_eq_canon]; refine (View.canon_cons_unit_zero off00 _ _ _).trans ?_; rfl
    isplitl [H11]
    · iexists _; isplitr; swap; · iexact H11
      ipureintro; rw [View.read_writes_junk_eq_canon]; refine (View.canon_cons_unit_zero off00 _ _ _).trans ?_; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal.Hand

end
-- ==== Proof.KFrame.lean ====
/- The kernel's whole run: the proof data that name what every grid point leaves in each window, the body obligation
   from the two runs of the body, and the run of the program. -/
module

public import proofs.«01_k».proof.Proof.KRunA
public import proofs.«01_k».proof.Proof.KRunB
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The loss block after grid point `n`: the first point starts it from zeros, every later one adds to it. -/
def lossAt (c : Dev nD) : ℕ → Vec F S8x128 .f32
  | 0 => let t : Fin cfg0.N := ⟨0, by decide⟩
    lossS (iblk m c 0 t) (iblk m c 1 t) (iblk m c 2 t) (iblk m c 3 t) (iblk m c 4 t) (iblk m c 5 t) k0_pay14
  | n + 1 => if h : n + 1 < cfg0.N then
      let t : Fin cfg0.N := ⟨n + 1, h⟩
      lossS (iblk m c 0 t) (iblk m c 1 t) (iblk m c 2 t) (iblk m c 3 t) (iblk m c 4 t) (iblk m c 5 t) (lossAt c n)
    else lossAt c n

/-- At the point that starts it. -/
theorem lossAt_start (c : Dev nD) (t : Fin cfg0.N) (h0 : t.val % 74 = 0) : lossAt m c t.val = lossS (iblk m c 0 t) (iblk m c 1 t) (iblk m c 2 t) (iblk m c 3 t) (iblk m c 4 t) (iblk m c 5 t) k0_pay14 := by
  have ht : t.val < 74 := Nat.lt_of_lt_of_eq t.isLt N_0
  obtain ⟨n, hn⟩ := t
  obtain rfl : n = 0 := by change n % 74 = 0 at h0; change n < 74 at ht; omega
  rfl

/-- At a later point. -/
theorem lossAt_next (c : Dev nD) (t : Fin cfg0.N) (h0 : ¬ t.val % 74 = 0) :
    lossAt m c t.val = lossS (iblk m c 0 t) (iblk m c 1 t) (iblk m c 2 t) (iblk m c 3 t) (iblk m c 4 t) (iblk m c 5 t) (lossAt m c (t.val - 1)) := by
  obtain ⟨n, hn⟩ := t
  cases n with
  | zero => exact absurd rfl h0
  | succ n =>
    show lossAt m c (n + 1) = _
    rw [lossAt, dif_pos hn]
    rfl

/-- The pipeline's proof data: the arrays as the region finds them, and after each point every window's buffer at what
    the point leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dgS (iblk m c 0 t) (iblk m c 1 t) (iblk m c 2 t) (iblk m c 3 t) (iblk m c 4 t) (iblk m c 5 t)
    | ⟨7, _⟩ => dbS (iblk m c 0 t) (iblk m c 1 t) (iblk m c 2 t) (iblk m c 3 t) (iblk m c 4 t) (iblk m c 5 t)
    | ⟨8, _⟩ => lossAt m c t.val
    | ⟨9, _⟩ => qS (iblk m c 2 t) (iblk m c 3 t) (iblk m c 4 t)
    | ⟨10, _⟩ => hS (iblk m c 2 t) (iblk m c 3 t) (iblk m c 4 t)
    | ⟨11, _⟩ => zS (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dgS (iblk m c 0 t) (iblk m c 1 t) (iblk m c 2 t) (iblk m c 3 t) (iblk m c 4 t) (iblk m c 5 t) := by dsimp only [dats]
theorem after0_7 (c : Dev nD) (t : Fin cfg0.N) : (dats m 0 c).after 7 t = dbS (iblk m c 0 t) (iblk m c 1 t) (iblk m c 2 t) (iblk m c 3 t) (iblk m c 4 t) (iblk m c 5 t) := by dsimp only [dats]
theorem after0_8 (c : Dev nD) (t : Fin cfg0.N) : (dats m 0 c).after 8 t = lossAt m c t.val := by dsimp only [dats]
theorem after0_9 (c : Dev nD) (t : Fin cfg0.N) : (dats m 0 c).after 9 t = qS (iblk m c 2 t) (iblk m c 3 t) (iblk m c 4 t) := by dsimp only [dats]
theorem after0_10 (c : Dev nD) (t : Fin cfg0.N) : (dats m 0 c).after 10 t = hS (iblk m c 2 t) (iblk m c 3 t) (iblk m c 4 t) := by dsimp only [dats]
theorem after0_11 (c : Dev nD) (t : Fin cfg0.N) : (dats m 0 c).after 11 t = zS (iblk m c 2 t) (iblk m c 3 t) (iblk m c 4 t) := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- After the first point the loss window holds what the point before left. -/
theorem before0_8 (c : Dev nD) (t : Fin cfg0.N) (h0 : ¬ t.val % 74 = 0) (d) :
    (dats m 0 c).before 8 t d = lossAt m c (t.val - 1) := by
  have ht : t.val < 74 := Nat.lt_of_lt_of_eq t.isLt N_0
  have hp : t.val - 1 < cfg0.N := Nat.lt_of_le_of_lt (Nat.sub_le _ _) t.isLt
  refine ((dats m 0 c).before_out_kept 8 rfl t (by omega) ?_ (fun _ => rfl) (fun _ _ => rfl) d).trans (after0_8 m c ⟨t.val - 1, hp⟩)
  refine Bool.eq_false_iff.mpr fun h => ?_
  have := (flush0_8 ⟨t.val - 1, hp⟩).mp h
  change (t.val - 1) % 74 = 73 at this
  omega

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4000000 in
/-- The body at any point: the inputs' memrefs hold their blocks, the loss block what the point before left, so the run
    of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_9, after0_10, after0_11]
  rw [show (dats m 0 c).Φ t.castSucc = Pipeline.ΦA spec0 c from rfl, PhiA0_eq]
  have hN : t.val < 74 := lt_of_lt_of_eq t.isLt (show cfg0.N = 74 from N_0)
  by_cases h0 : t.val % 74 = 0
  · rw [after0_8, lossAt_start m c t h0]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) k0_pay14) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [after0_8, lossAt_next m c t h0]
    simp only [before0_8 m c t h0]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (lossAt m c (t.val - 1))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run of the program to the named contents, with every counter at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every run ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.RowMath.lean ====
/- The mathematics of one output row: learned clipping of a row of weights to sixteen levels in groups of 128, the row's
   squared error against its targets, and the gradients of that error in the two clipping parameters of every group.
   Everything is a function of the row's numbers over the extended reals; both programs are read as these functions. -/
module

public import Idealize.ShloMosaic.Lib.Pointwise
public import Idealize.ShloMosaic.Lib.Pipeline.ValueKit.Acc

@[expose] public section

noncomputable section

namespace Cert.RowMath

open Idealize.ShloMosaic

/-! ## Constants -/

/-- The number of steps, 15. -/
abbrev k15 : EReal := Ideal.ofBits .f32 0x41700000#32
/-- The scale of the gradients, 2 over the number of elements. -/
abbrev kG : EReal := Ideal.ofBits .f32 0x32939A86#32
/-- The number of elements. -/
abbrev kN : EReal := Ideal.ofBits .f32 0x4CDE0000#32
/-- Rounding to the nearest integer, ties to even. -/
abbrev rnd : EReal → EReal := Ideal.liftRound Ideal.roundHalfEven

theorem k15_eq : k15 = ((15 : ℝ) : EReal) := by
  simp [Ideal.ofBits, Ideal.ieee, -EReal.coe_mul]; norm_num

theorem kG_nonneg_ne_top : 0 ≤ kG ∧ kG ≠ ⊤ := by
  simp only [kG, Ideal.ofBits, Ideal.ieee]
  rw [if_neg (by decide), if_neg (by decide)]
  refine ⟨?_, EReal.coe_ne_top _⟩
  rw [EReal.coe_nonneg, if_neg (by decide)]
  positivity

/-- A nonnegative finite factor leaves a sum. -/
theorem mul_sum_of_nonneg {ι : Type*} (s : Finset ι) (f : ι → EReal) (x : EReal) (h0 : 0 ≤ x) (ht : x ≠ ⊤) :
    ∑ i ∈ s, x * f i = x * ∑ i ∈ s, f i := by
  classical
  induction s using Finset.induction_on with
  | empty => simp
  | insert a s ha ih => rw [Finset.sum_insert ha, Finset.sum_insert ha, ih, EReal.left_distrib_of_nonneg_of_ne_top h0 ht]

/-! ## One weight -/

/-- The unclipped code of weight `v` at scale `h` and zero point `z`. -/
def cOf (v h z : EReal) : EReal := rnd (Ideal.div v h) + z
/-- The code, clipped to 0 … 15. -/
def qfOf (v h z : EReal) : EReal := min k15 (max 0 (cOf v h z))
/-- The dequantised weight. -/
def whatOf (v h z : EReal) : EReal := (qfOf v h z - z) * h
/-- Whether the code is unclipped. -/
def inside (v h z : EReal) : Prop := 0 ≤ cOf v h z ∧ cOf v h z ≤ k15
open Classical in
/-- The derivative of the dequantised weight in the scale, where the zero point follows the scale. -/
def dOf (v h z loh : EReal) : EReal := qfOf v h z - z - if inside v h z then Ideal.div v h else loh
open Classical in
/-- One where the code is clipped. -/
def omOf (v h z : EReal) : EReal := if inside v h z then 0 else 1

/-! ## One row -/

/-- Column `l` of group `g`. -/
def col (g : Fin 28) (l : Fin 128) : Fin 3584 := ⟨g.val * 128 + l.val, by omega⟩
/-- The group of a column. -/
def grp (d : Fin 3584) : Fin 28 := ⟨d.val / 128, by omega⟩

section Row
variable (w : Fin 3584 → EReal) (ga be : Fin 28 → EReal) (X : Fin 6144 → Fin 3584 → EReal) (XS Y : Fin 6144 → EReal)

/-- The greatest weight of a group. -/
def wmax (g : Fin 28) : EReal := Finset.fold max (Ideal.ofBits .f32 0xFF800000#32) (fun l : Fin 128 => w (col g l)) Finset.univ
/-- The least weight of a group. -/
def wmin (g : Fin 28) : EReal := Finset.fold min (Ideal.ofBits .f32 0x7F800000#32) (fun l : Fin 128 => w (col g l)) Finset.univ
/-- The lower clipping bound of a group. -/
def lo (g : Fin 28) : EReal := Ideal.logistic (be g) * wmin w g
/-- The clipping range of a group. -/
def span (g : Fin 28) : EReal := Ideal.logistic (ga g) * wmax w g - lo w be g
open Classical in
/-- The scale of a group. -/
def hG (g : Fin 28) : EReal := Ideal.div (if span w ga be g = 0 then k15 else span w ga be g) k15
/-- The lower bound in units of the scale. -/
def lohG (g : Fin 28) : EReal := Ideal.div (lo w be g) (hG w ga be g)
/-- The zero point of a group. -/
def zG (g : Fin 28) : EReal := 0 - rnd (lohG w ga be g)
/-- The dequantised weight of a column. -/
def whatR (d : Fin 3584) : EReal := whatOf (w d) (hG w ga be (grp d)) (zG w ga be (grp d))
/-- The code of a column as an 8-bit integer. -/
def qR (d : Fin 3584) : BitVec 8 := Ideal.fptosi 8 (qfOf (w d) (hG w ga be (grp d)) (zG w ga be (grp d)))
/-- The row's error on a token. -/
def err (t : Fin 6144) : EReal := (∑ d : Fin 3584, whatR w ga be d * X t d) * XS t - Y t
/-- The row's squared error on a token. -/
def sq (t : Fin 6144) : EReal := err w ga be X XS Y t * err w ga be X XS Y t
/-- The gradient in a column's dequantised weight, unscaled. -/
def gW (d : Fin 3584) : EReal := ∑ t : Fin 6144, err w ga be X XS Y t * XS t * X t d
/-- The scale sum of a group, unscaled. -/
def sh (g : Fin 28) : EReal := ∑ l : Fin 128, gW w ga be X XS Y (col g l) *
  dOf (w (col g l)) (hG w ga be g) (zG w ga be g) (lohG w ga be g)
/-- The clip sum of a group, unscaled. -/
def sc (g : Fin 28) : EReal := ∑ l : Fin 128, gW w ga be X XS Y (col g l) *
  omOf (w (col g l)) (hG w ga be g) (zG w ga be g)
/-- The gradient in the upper clipping parameter of a group. -/
def dgR (g : Fin 28) : EReal :=
  Ideal.div (sh w ga be X XS Y g * kG * Ideal.logistic (ga g) * (1 - Ideal.logistic (ga g)) * wmax w g) k15
/-- The gradient in the lower clipping parameter of a group. -/
def dbR (g : Fin 28) : EReal :=
  (sc w ga be X XS Y g * kG - Ideal.div (sh w ga be X XS Y g * kG) k15) * Ideal.logistic (be g)
    * (1 - Ideal.logistic (be g)) * wmin w g

end Row

@[simp] theorem grp_col (g : Fin 28) (l : Fin 128) : grp (col g l) = g := Fin.ext (by
  show (g.val * 128 + l.val) / 128 = g.val; omega)

/-! ## The same numbers written with masks and integer codes -/

theorem select_and {α : Type} (P Q : Prop) [Decidable P] [Decidable Q] [Decidable (P ∧ Q)] (a b : α) :
    Scalar.select (IntOp.andi (BitVec.ofBool (decide P)) (BitVec.ofBool (decide Q))) a b = if P ∧ Q then a else b := by
  by_cases hP : P <;> by_cases hQ : Q <;> simp [hP, hQ, IntOp.andi, Scalar.select]

/-- The mask as a number. -/
theorem mask_and (P Q : Prop) [Decidable P] [Decidable Q] [Decidable (P ∧ Q)] :
    FloatOps.sitofp (F := Ideal) .f32 (BitVec.setWidth 32 (IntOp.andi (BitVec.ofBool (decide P)) (BitVec.ofBool (decide Q))))
      = if P ∧ Q then (1 : EReal) else 0 := by
  show ((((BitVec.setWidth 32 (IntOp.andi (BitVec.ofBool (decide P)) (BitVec.ofBool (decide Q)))).toInt : ℝ) : EReal)) = _
  by_cases hP : P <;> by_cases hQ : Q <;> simp [hP, hQ, IntOp.andi]

theorem rnd_cases (x : EReal) : rnd x = ⊥ ∨ rnd x = ⊤ ∨ ∃ n : ℤ, rnd x = ((n : ℝ) : EReal) := by
  induction x using EReal.rec with
  | bot => exact .inl rfl
  | top => exact .inr (.inl rfl)
  | coe r => exact .inr (.inr ⟨_, rfl⟩)

/-- The clipped code is one of the integers 0 … 15. -/
theorem qfOf_int (v h loh : EReal) : ∃ n : ℤ, 0 ≤ n ∧ n ≤ 15 ∧ qfOf v h (0 - rnd loh) = ((n : ℝ) : EReal) := by
  have key : ∀ x : EReal, (x = ⊥ ∨ x = ⊤ ∨ ∃ n : ℤ, x = ((n : ℝ) : EReal)) →
      ∃ n : ℤ, 0 ≤ n ∧ n ≤ 15 ∧ min k15 (max 0 x) = ((n : ℝ) : EReal) := by
    rintro x (rfl | rfl | ⟨n, rfl⟩)
    · refine ⟨0, le_rfl, by norm_num, ?_⟩
      rw [k15_eq, max_eq_left bot_le, min_eq_right (by exact_mod_cast (by norm_num : (0 : ℝ) ≤ 15))]; norm_num
    · refine ⟨15, by norm_num, le_rfl, ?_⟩
      rw [k15_eq, max_eq_right le_top, min_eq_left le_top]; norm_num
    · refine ⟨min 15 (max 0 n), le_min (by norm_num) (le_max_left _ _), min_le_left _ _, ?_⟩
      rw [k15_eq]
      push_cast
      rfl
  refine key _ ?_
  show rnd (Ideal.div v h) + (0 - rnd loh) = ⊥ ∨ _
  rcases rnd_cases (Ideal.div v h) with e | e | ⟨a, e⟩ <;> rcases rnd_cases loh with f | f | ⟨b, f⟩ <;> unfold cOf <;> rw [e, f]
  · left; simp
  · left; simp
  · left; simp
  · right; left; simp
  · left; simp
  · right; left; rw [zero_sub, ← EReal.coe_neg]; exact EReal.top_add_coe _
  · right; left; simp
  · left; simp
  · right; right; refine ⟨a - b, ?_⟩
    rw [zero_sub]; push_cast; rfl

/-- The integer code converted back is the code. -/
theorem sitofp_qfOf (v h loh : EReal) :
    FloatOps.sitofp (F := Ideal) .f32 (FloatOps.fptosi (F := Ideal) (φ := .f32) 8 (qfOf v h (0 - rnd loh))) = qfOf v h (0 - rnd loh) := by
  obtain ⟨n, h0, h1, e⟩ := qfOf_int v h loh
  rw [e]
  show (((Ideal.fptosi 8 ((n : ℝ) : EReal)).toInt : ℝ) : EReal) = _
  have : Ideal.toIntClamped (-(2 ^ (8 - 1) : Nat)) ((2 ^ (8 - 1) : Nat) - 1) ((n : ℝ) : EReal) = n := by
    show max _ (min _ (if 0 ≤ (n : ℝ) then ⌊(n : ℝ)⌋ else ⌈(n : ℝ)⌉)) = n
    rw [if_pos (by exact_mod_cast h0), Int.floor_intCast]
    norm_num
    omega
  unfold Ideal.fptosi
  rw [this, BitVec.toInt_ofInt]
  have : n.bmod (2 ^ 8) = n := by rw [Int.bmod_def]; norm_num; omega
  rw [this]

open Classical in
/-- The derivative in the scale written with the mask. -/
theorem dOf_mask (v h z loh : EReal) :
    qfOf v h z - z - (if inside v h z then (1 : EReal) else 0) * Ideal.div v h
      - (1 - (if inside v h z then (1 : EReal) else 0)) * loh = dOf v h z loh := by
  unfold dOf
  have e : (1 : EReal) - 1 = 0 := by rw [← EReal.coe_one, ← EReal.coe_sub]; norm_num
  split
  · rw [one_mul, e, zero_mul, sub_zero]
  · rw [zero_mul, sub_zero, sub_zero, one_mul]

open Classical in
theorem omOf_mask (v h z : EReal) : 1 - (if inside v h z then (1 : EReal) else 0) = omOf v h z := by
  unfold omOf
  have e : (1 : EReal) - 1 = 0 := by rw [← EReal.coe_one, ← EReal.coe_sub]; norm_num
  split
  · exact e
  · exact sub_zero _

end Cert.RowMath

end
-- ==== Proof.KBlock.lean ====
/- What one grid point computes, element by element: the groups' scales, zero points, codes and factors of a block of 256
   rows are the row functions of each row of the block. -/
module

public import proofs.«01_k».proof.Proof.KSpec
public import proofs.«01_k».proof.Proof.RowMath

@[expose] public section

set_option maxRecDepth 16384

noncomputable section

namespace Cert.KernelIdeal.Hand

open Idealize.ShloMosaic Cert.KernelIdeal.Gen
open Cert.RowMath (col grp)

/-- Row `r` of a block. -/
abbrev rowOf {a b : ℕ} (x : (⟨2, ![a, b]⟩ : Shape).Idx → EReal) (r : Fin a) : Fin b → EReal := fun d => x (ix2 r d)

/-- A load of the whole block reads the block. -/
theorem ld28_eq (x : Vec Ideal S256x28 .f32) : ld28 x = x :=
  View.ld_unit_zero (by funext a; match a with | ⟨0, _⟩ => rfl | ⟨1, _⟩ => rfl) _ _

/-- Group `g`'s columns are the block's. -/
theorem WG_apply (x2 : Vec Ideal S256x3584 .f32) (g : Fin 28) (r : Fin 256) (l : Fin 128) :
    WG x2 g (ix2 r l) = x2 (ix2 r (col g l)) := by
  refine congrArg x2 (funext fun a => ?_)
  match a with
  | ⟨0, _⟩ => exact Fin.ext (by show 0 + 1 * r.val = r.val; omega)
  | ⟨1, _⟩ => exact Fin.ext (by show 128 * g.val + 1 * l.val = g.val * 128 + l.val; omega)

/-- The lane number at an index. -/
theorem lane_eq (r : Fin 256) (l : Fin 128) (n : ℕ) (hn : n < 128) :
    cmpi .eq laneV (broadcast S256x128 (BitVec.ofNat 32 n)) (ix2 r l) = BitVec.ofBool (decide (l.val = n)) := by
  have h0 := l.isLt
  pointwise
  have e : (BitVec.ofNat 32 l.val = BitVec.ofNat 32 n) ↔ l.val = n := by
    constructor
    · intro h
      have := congrArg BitVec.toNat h
      simp only [BitVec.toNat_ofNat] at this
      omega
    · rintro rfl; rfl
  show BitVec.ofBool (BitVec.ofNat 32 l.val == BitVec.ofNat 32 n) = _
  rw [beq_eq_decide]
  simp only [e]

/-- Lane `g` of the first `n` groups' maxima is group `g`'s. -/
theorem wmaxC_apply (W : Fin 28 → FVec Ideal S256x128 .f32) (r : Fin 256) (g : Fin 28) : ∀ (n : ℕ) (h : n ≤ 28),
    g.val < n → wmaxC W n h (ix2 r (⟨g.val, by omega⟩ : Fin 128)) = Finset.fold max (Ideal.ofBits .f32 0xFF800000#32) (fun l : Fin 128 => W g (ix2 r l)) Finset.univ
  | 0, _, hg => absurd hg (Nat.not_lt_zero _)
  | n + 1, h, hg => by
    unfold wmaxC
    rw [show ∀ (c : IVec S256x128 1) (a b : FVec Ideal S256x128 .f32) i, select c a b i = Scalar.select (c i) (a i) (b i) from fun _ _ _ _ => rfl,
      lane_eq r _ n (by omega)]
    by_cases e : g.val = n
    · obtain rfl : g = ⟨n, h⟩ := Fin.ext e
      simp only [decide_true, BitVec.ofBool_true, Scalar.select]
      pointwise
    · have := wmaxC_apply W r g n (by omega) (by omega)
      simp [e, Scalar.select, this]

/-- Lane `g` of the first `n` groups' minima is group `g`'s. -/
theorem wminC_apply (W : Fin 28 → FVec Ideal S256x128 .f32) (r : Fin 256) (g : Fin 28) : ∀ (n : ℕ) (h : n ≤ 28),
    g.val < n → wminC W n h (ix2 r (⟨g.val, by omega⟩ : Fin 128)) = Finset.fold min (Ideal.ofBits .f32 0x7F800000#32) (fun l : Fin 128 => W g (ix2 r l)) Finset.univ
  | 0, _, hg => absurd hg (Nat.not_lt_zero _)
  | n + 1, h, hg => by
    unfold wminC
    rw [show ∀ (c : IVec S256x128 1) (a b : FVec Ideal S256x128 .f32) i, select c a b i = Scalar.select (c i) (a i) (b i) from fun _ _ _ _ => rfl,
      lane_eq r _ n (by omega)]
    by_cases e : g.val = n
    · obtain rfl : g = ⟨n, h⟩ := Fin.ext e
      simp only [decide_true, BitVec.ofBool_true, Scalar.select]
      pointwise
    · have := wminC_apply W r g n (by omega) (by omega)
      simp [e, Scalar.select, this]

section Groups
variable (x2 : Vec Ideal S256x3584 .f32) (x3 x4 : Vec Ideal S256x28 .f32) (r : Fin 256)

theorem wmax_eq (g : Fin 28) (h : g.val < 128) :
    wmaxC (WG x2) 28 le_rfl (ix2 r (⟨g.val, h⟩ : Fin 128)) = RowMath.wmax (rowOf x2 r) g := by
  rw [wmaxC_apply _ r g 28 le_rfl g.isLt]
  exact congrArg (fun f => Finset.fold max _ f Finset.univ) (funext fun l => WG_apply x2 g r l)

theorem wmin_eq (g : Fin 28) (h : g.val < 128) :
    wminC (WG x2) 28 le_rfl (ix2 r (⟨g.val, h⟩ : Fin 128)) = RowMath.wmin (rowOf x2 r) g := by
  rw [wminC_apply _ r g 28 le_rfl g.isLt]
  exact congrArg (fun f => Finset.fold min _ f Finset.univ) (funext fun l => WG_apply x2 g r l)

/-- The scale of a group of a row. -/
theorem hS_apply (g : Fin 28) : hS x2 x3 x4 (ix2 r g) = RowMath.hG (rowOf x2 r) (rowOf x3 r) (rowOf x4 r) g := by
  unfold hS hP
  rw [ld28_eq, ld28_eq]
  unfold_payloads
  pointwise [wmax_eq, wmin_eq]
  unfold RowMath.hG RowMath.span RowMath.lo
  congr

/-- The lower bound in units of the scale. -/
theorem lohS_apply (g : Fin 28) : lohS x2 x3 x4 (ix2 r g) = RowMath.lohG (rowOf x2 r) (rowOf x3 r) (rowOf x4 r) g := by
  have h := hS_apply x2 x3 x4 r g
  unfold lohS lohP
  unfold hS hP at h
  rw [ld28_eq, ld28_eq] at *
  unfold k0_pay48 k0_pay46 k0_pay45 k0_pay43
  pointwise [h, wmin_eq]
  rfl

/-- The zero point of a group of a row. -/
theorem zS_apply (g : Fin 28) : zS x2 x3 x4 (ix2 r g) = RowMath.zG (rowOf x2 r) (rowOf x3 r) (rowOf x4 r) g := by
  have h := lohS_apply x2 x3 x4 r g
  unfold zS zP k0_pay49
  unfold lohS lohP at h
  pointwise [h]
  rfl

/-- A glued block at a column. -/
theorem glueG_apply {e : EltTy} (P : Fin 28 → S256x128.Idx → Elt Ideal e) (d : Fin 3584) :
    glueG P (ix2 r d) = P (grp d) (ix2 r ⟨d.val % 128, Nat.mod_lt _ (by norm_num)⟩) := by
  refine congrArg (P (grp d)) ?_
  exact (ix2_eq_valueIdx r (⟨d.val % 128, Nat.mod_lt _ (by norm_num)⟩ : Fin 128)).symm

/-- A glued block at column `l` of group `g`. -/
theorem glueG_col {e : EltTy} (P : Fin 28 → S256x128.Idx → Elt Ideal e) (g : Fin 28) (l : Fin 128) :
    glueG P (ix2 r (col g l)) = P g (ix2 r l) := by
  rw [glueG_apply, RowMath.grp_col]
  exact congrArg (P g) (congrArg (ix2 r) (Fin.ext (by show (g.val * 128 + l.val) % 128 = l.val; omega)))

/-- Every column is a column of a group. -/
theorem exists_col (d : Fin 3584) : ∃ g l, d = col g l :=
  ⟨grp d, ⟨d.val % 128, Nat.mod_lt _ (by norm_num)⟩, Fin.ext (by show d.val = d.val / 128 * 128 + d.val % 128; omega)⟩

section One
variable (W : Fin 28 → FVec Ideal S256x128 .f32) (h z loh : FVec Ideal S256x28 .f32) (g : Fin 28) (l : Fin 128)

theorem whatP_apply : whatP W h z g (ix2 r l) = RowMath.whatOf (W g (ix2 r l)) (h (ix2 r g)) (z (ix2 r g)) := by
  pointwise
  rfl

theorem qP_apply : qP W h z g (ix2 r l) = Ideal.fptosi 8 (RowMath.qfOf (W g (ix2 r l)) (h (ix2 r g)) (z (ix2 r g))) := by
  pointwise
  rfl

open Classical in
theorem dP_apply : dP W h z loh g (ix2 r l) = RowMath.dOf (W g (ix2 r l)) (h (ix2 r g)) (z (ix2 r g)) (loh (ix2 r g)) := by
  pointwise [RowMath.select_and]
  unfold RowMath.dOf RowMath.inside RowMath.qfOf RowMath.cOf
  congr

open Classical in
theorem omP_apply : omP W h z g (ix2 r l) = RowMath.omOf (W g (ix2 r l)) (h (ix2 r g)) (z (ix2 r g)) := by
  pointwise [RowMath.select_and]
  unfold RowMath.omOf RowMath.inside RowMath.cOf
  congr

end One

/-- The dequantised weights. -/
theorem whatS_apply (d : Fin 3584) : whatS x2 x3 x4 (ix2 r d) = RowMath.whatR (rowOf x2 r) (rowOf x3 r) (rowOf x4 r) d := by
  obtain ⟨g, l, rfl⟩ := exists_col d
  refine (glueG_col r _ g l).trans ((whatP_apply _ _ _ _ _ _).trans ?_)
  rw [hS_apply, zS_apply, WG_apply, RowMath.whatR, RowMath.grp_col]

/-- The codes. -/
theorem qS_apply (d : Fin 3584) : qS x2 x3 x4 (ix2 r d) = RowMath.qR (rowOf x2 r) (rowOf x3 r) (rowOf x4 r) d := by
  obtain ⟨g, l, rfl⟩ := exists_col d
  refine (glueG_col r _ g l).trans ((qP_apply _ _ _ _ _ _).trans ?_)
  rw [hS_apply, zS_apply, WG_apply, RowMath.qR, RowMath.grp_col]

/-- The factors of the scale sums. -/
theorem dS_apply (g : Fin 28) (l : Fin 128) : dS x2 x3 x4 (ix2 r (col g l)) =
    RowMath.dOf (x2 (ix2 r (col g l))) (RowMath.hG (rowOf x2 r) (rowOf x3 r) (rowOf x4 r) g)
      (RowMath.zG (rowOf x2 r) (rowOf x3 r) (rowOf x4 r) g) (RowMath.lohG (rowOf x2 r) (rowOf x3 r) (rowOf x4 r) g) := by
  refine (glueG_col r _ g l).trans ((dP_apply _ _ _ _ _ _ _).trans ?_)
  rw [hS_apply, zS_apply, lohS_apply, WG_apply]

/-- The factors of the clip sums. -/
theorem omS_apply (g : Fin 28) (l : Fin 128) : omS x2 x3 x4 (ix2 r (col g l)) =
    RowMath.omOf (x2 (ix2 r (col g l))) (RowMath.hG (rowOf x2 r) (rowOf x3 r) (rowOf x4 r) g)
      (RowMath.zG (rowOf x2 r) (rowOf x3 r) (rowOf x4 r) g) := by
  refine (glueG_col r _ g l).trans ((omP_apply _ _ _ _ _ _).trans ?_)
  rw [hS_apply, zS_apply, WG_apply]

end Groups

end Cert.KernelIdeal.Hand

end
-- ==== Proof.KForward.lean ====
/- The forward loop of one grid point, element by element: the scaled errors of a block's rows against every token, and
   the loss block, whose elements together grow by the rows' squared errors. -/
module

public import proofs.«01_k».proof.Proof.KBlock

@[expose] public section

set_option maxRecDepth 16384

noncomputable section

namespace Cert.KernelIdeal.Hand

open Idealize.ShloMosaic Cert.KernelIdeal.Gen
open Cert.RowMath (col grp)

/-- The codes of every token. -/
abbrev tokX (x0 : Vec Ideal S6144x3584 .fp8e4m3) : Fin 6144 → Fin 3584 → EReal := fun t d => x0 (ix2 t d)
/-- The scales of every token. -/
abbrev tokS (x1 : Vec Ideal S1x6144 .f32) : Fin 6144 → EReal := fun t => x1 (ix2 0 t)
/-- Row `r`'s targets. -/
abbrev tokY (x5 : Vec Ideal S6144x256 .bf16) (r : Fin 256) : Fin 6144 → EReal := fun t => x5 (ix2 t r)

/-- Token `j` of trip `k`. -/
def tok (k : Fin 12) (j : Fin 512) : Fin 6144 := ⟨k.val * 512 + j.val, by omega⟩

/-- Rows by eights: sublane `i` of the thirty-two slabs together are all 256 rows. -/
theorem slabs (g : Fin 256 → Fin 128 → EReal) :
    ∑ i : Fin 8, ∑ l : Fin 128, ∑ s : Fin 32, g ⟨s.val * 8 + i.val, by omega⟩ l = ∑ r : Fin 256, ∑ l : Fin 128, g r l := by
  rw [← Fin.sum_mul_add_fin 32 8 (fun r => ∑ l : Fin 128, g r l), Finset.sum_comm (s := (Finset.univ : Finset (Fin 32)))]
  exact Finset.sum_congr rfl fun i _ => Finset.sum_comm

/-- The four quarters of the tokens, each by slabs, are all of them. -/
theorem quarters (f : Fin 256 → Fin 512 → EReal) :
    ∑ i : Fin 8, ∑ l : Fin 128, ∑ s : Fin 32, f ⟨s.val * 8 + i.val, by omega⟩ ⟨l.val, by omega⟩
        + ∑ i : Fin 8, ∑ l : Fin 128, ∑ s : Fin 32, f ⟨s.val * 8 + i.val, by omega⟩ ⟨128 + l.val, by omega⟩
        + ∑ i : Fin 8, ∑ l : Fin 128, ∑ s : Fin 32, f ⟨s.val * 8 + i.val, by omega⟩ ⟨256 + l.val, by omega⟩
        + ∑ i : Fin 8, ∑ l : Fin 128, ∑ s : Fin 32, f ⟨s.val * 8 + i.val, by omega⟩ ⟨384 + l.val, by omega⟩
      = ∑ r : Fin 256, ∑ j : Fin 512, f r j := by
  rw [slabs fun r l => f r ⟨l.val, by omega⟩, slabs fun r l => f r ⟨128 + l.val, by omega⟩,
    slabs fun r l => f r ⟨256 + l.val, by omega⟩, slabs fun r l => f r ⟨384 + l.val, by omega⟩,
    ← Finset.sum_add_distrib, ← Finset.sum_add_distrib, ← Finset.sum_add_distrib]
  refine Finset.sum_congr rfl fun r _ => ?_
  rw [← Fin.sum_mul_add_fin 4 128 (fun j => f r j), Fin.sum_univ_four]
  refine congrArg₂ (· + ·) (congrArg₂ (· + ·) (congrArg₂ (· + ·) ?_ ?_) ?_) ?_ <;>
    exact Finset.sum_congr rfl fun l _ => congrArg (f r) (Fin.ext (by simp))

section Forward
variable (x0 : Vec Ideal S6144x3584 .fp8e4m3) (x1 : Vec Ideal S1x6144 .f32) (x2 : Vec Ideal S256x3584 .f32)
  (x3 x4 : Vec Ideal S256x28 .f32) (x5 : Vec Ideal S6144x256 .bf16)

/-- Row `r`'s error on a token, at the block's arrays. -/
abbrev errB (r : Fin 256) (t : Fin 6144) : EReal := RowMath.err (rowOf x2 r) (rowOf x3 r) (rowOf x4 r) (tokX x0) (tokS x1) (tokY x5 r) t

theorem xrow_apply (k : Fin 12) (h : k.val < k0_t1_loop.trips) (j : Fin 512) (d : Fin 3584) :
    xrow x0 ⟨k.val, h⟩ (ix2 j d) = x0 (ix2 (tok k j) d) := by
  have e0 : k0_off1 ⟨k.val, h⟩ 0 = 512 * k.val := congrFun (k0_off1_eq _) 0
  have e1 : k0_off1 ⟨k.val, h⟩ 1 = 0 := congrFun (k0_off1_eq _) 1
  refine congrArg x0 (funext fun a => ?_)
  match a with
  | ⟨0, _⟩ => exact Fin.ext (by show k0_off1 ⟨k.val, h⟩ 0 + 1 * j.val = k.val * 512 + j.val; omega)
  | ⟨1, _⟩ => exact Fin.ext (by show k0_off1 ⟨k.val, h⟩ 1 + 1 * d.val = d.val; omega)

theorem xsrow_apply (k : Fin 12) (h : k.val < k0_t1_loop.trips) (j : Fin 512) :
    xsrow x1 ⟨k.val, h⟩ (ix2 0 j) = x1 (ix2 0 (tok k j)) := by
  have e0 : k0_off2 ⟨k.val, h⟩ 0 = 0 := congrFun (k0_off2_eq _) 0
  have e1 : k0_off2 ⟨k.val, h⟩ 1 = 512 * k.val := congrFun (k0_off2_eq _) 1
  refine congrArg x1 (funext fun a => ?_)
  match a with
  | ⟨0, _⟩ => exact Fin.ext (by show k0_off2 ⟨k.val, h⟩ 0 + 1 * 0 = 0; omega)
  | ⟨1, _⟩ => exact Fin.ext (by show k0_off2 ⟨k.val, h⟩ 1 + 1 * j.val = k.val * 512 + j.val; omega)

theorem yrow_apply (k : Fin 12) (h : k.val < k0_t1_loop.trips) (j : Fin 512) (r : Fin 256) :
    yrow x5 ⟨k.val, h⟩ (ix2 j r) = x5 (ix2 (tok k j) r) := by
  have e0 : k0_off3 ⟨k.val, h⟩ 0 = 512 * k.val := congrFun (k0_off3_eq _) 0
  have e1 : k0_off3 ⟨k.val, h⟩ 1 = 0 := congrFun (k0_off3_eq _) 1
  refine congrArg x5 (funext fun a => ?_)
  match a with
  | ⟨0, _⟩ => exact Fin.ext (by show k0_off3 ⟨k.val, h⟩ 0 + 1 * j.val = k.val * 512 + j.val; omega)
  | ⟨1, _⟩ => exact Fin.ext (by show k0_off3 ⟨k.val, h⟩ 1 + 1 * r.val = r.val; omega)

/-- A trip's errors, at any dequantised weights. -/
theorem pay389_apply (what : Vec Ideal S256x3584 .bf16) (x : Vec Ideal S512x3584 .fp8e4m3) (xs : Vec Ideal S1x512 .f32)
    (y : Vec Ideal S512x256 .bf16) (r : Fin 256) (j : Fin 512) :
    k0_pay389 what x xs y (ix2 r j) = (∑ d : Fin 3584, what (ix2 r d) * x (ix2 j d)) * xs (ix2 0 j) - y (ix2 j r) := by
  unfold_payloads
  pointwise [dot_S256x3584_S512x3584_S256x512_1_1_0_0_n_n]

/-- A trip's errors are the rows' errors on the trip's tokens. -/
theorem err_trip (k : Fin 12) (h : k.val < k0_t1_loop.trips) (r : Fin 256) (j : Fin 512) :
    k0_pay389 (whatS x2 x3 x4) (xrow x0 ⟨k.val, h⟩) (xsrow x1 ⟨k.val, h⟩) (yrow x5 ⟨k.val, h⟩) (ix2 r j)
      = errB x0 x1 x2 x3 x4 x5 r (tok k j) := by
  rw [pay389_apply, xsrow_apply, yrow_apply]
  unfold errB RowMath.err
  refine congrArg (· * _ - _) (Finset.sum_congr rfl fun d _ => ?_)
  rw [whatS_apply, xrow_apply]

/-- The scaled errors. -/
theorem eS_apply (r : Fin 256) (t : Fin 6144) :
    eS x0 x1 x2 x3 x4 x5 (ix2 r t) = errB x0 x1 x2 x3 x4 x5 r t * tokS x1 t := by
  have hk : t.val / 512 < 12 := by omega
  have h : t.val / 512 < k0_t1_loop.trips := by rw [trips1]; omega
  have ht : tok ⟨t.val / 512, hk⟩ ⟨t.val % 512, Nat.mod_lt _ (by norm_num)⟩ = t := Fin.ext (by
    show t.val / 512 * 512 + t.val % 512 = t.val; omega)
  have e := err_trip x0 x1 x2 x3 x4 x5 ⟨t.val / 512, hk⟩ h r ⟨t.val % 512, Nat.mod_lt _ (by norm_num)⟩
  have s := xsrow_apply x1 ⟨t.val / 512, hk⟩ h ⟨t.val % 512, Nat.mod_lt _ (by norm_num)⟩
  rw [ht] at e s
  show k0_pay391 _ (xrow x0 ⟨t.val / 512, h⟩) (xsrow x1 ⟨t.val / 512, h⟩) (yrow x5 ⟨t.val / 512, h⟩)
    (ValueIdx.ix2 r (⟨t.val % 512, Nat.mod_lt _ (by norm_num)⟩ : Fin 512)) = _
  rw [← ix2_eq_valueIdx, ← e, show tokS x1 t = _ from s.symm]
  unfold k0_pay391 k0_pay388
  pointwise

/-- One trip adds the squares of its errors to the loss block, all elements together. -/
theorem pay390_sum (what : Vec Ideal S256x3584 .bf16) (x : Vec Ideal S512x3584 .fp8e4m3) (xs : Vec Ideal S1x512 .f32)
    (y : Vec Ideal S512x256 .bf16) (l0 : Vec Ideal S8x128 .f32) :
    ∑ i : Fin 8, ∑ l : Fin 128, k0_pay390 what x xs y l0 (ix2 i l)
      = (∑ i : Fin 8, ∑ l : Fin 128, l0 (ix2 i l))
        + ∑ r : Fin 256, ∑ j : Fin 512, k0_pay389 what x xs y (ix2 r j) * k0_pay389 what x xs y (ix2 r j) := by
  unfold k0_pay390
  generalize k0_pay389 what x xs y = E
  pointwise
  simp only [Finset.sum_add_distrib]
  congr 1
  exact quarters fun r j => E (ix2 r j) * E (ix2 r j)

/-- The loss block's elements together after the first `n` trips. -/
theorem lossF_sum (l0 : Vec Ideal S8x128 .f32) : ∀ n : ℕ, n ≤ 12 →
    ∑ i : Fin 8, ∑ l : Fin 128, lossF (whatS x2 x3 x4) x0 x1 x5 l0 n (ix2 i l)
      = (∑ i : Fin 8, ∑ l : Fin 128, l0 (ix2 i l))
        + ∑ k ∈ Finset.range n, if h : k < 12 then ∑ r : Fin 256, ∑ j : Fin 512,
            errB x0 x1 x2 x3 x4 x5 r (tok ⟨k, h⟩ j) * errB x0 x1 x2 x3 x4 x5 r (tok ⟨k, h⟩ j) else 0
  | 0, _ => by simp [lossF]
  | n + 1, hn => by
    have h : n < k0_t1_loop.trips := by rw [trips1]; omega
    rw [lossF, dif_pos h, pay390_sum, lossF_sum l0 n (by omega), Finset.sum_range_succ, dif_pos (show n < 12 by omega), add_assoc]
    refine congrArg (_ + ·) (congrArg (_ + ·) (Finset.sum_congr rfl fun r _ => Finset.sum_congr rfl fun j _ => ?_))
    rw [err_trip x0 x1 x2 x3 x4 x5 ⟨n, by omega⟩ h r j]

/-- One grid point adds its rows' squared errors to the loss block, all elements together. -/
theorem lossS_sum (l0 : Vec Ideal S8x128 .f32) :
    ∑ i : Fin 8, ∑ l : Fin 128, lossS x0 x1 x2 x3 x4 x5 l0 (ix2 i l)
      = (∑ i : Fin 8, ∑ l : Fin 128, l0 (ix2 i l))
        + ∑ r : Fin 256, ∑ t : Fin 6144, RowMath.sq (rowOf x2 r) (rowOf x3 r) (rowOf x4 r) (tokX x0) (tokS x1) (tokY x5 r) t := by
  rw [lossF_sum x0 x1 x2 x3 x4 x5 l0 12 le_rfl, Finset.sum_range]
  refine congrArg (_ + ·) ?_
  simp only [Fin.is_lt, dite_true, Fin.eta]
  rw [Finset.sum_comm]
  refine Finset.sum_congr rfl fun r _ => ?_
  exact Fin.sum_mul_add_fin 12 512 (fun t => RowMath.sq (rowOf x2 r) (rowOf x3 r) (rowOf x4 r) (tokX x0) (tokS x1) (tokY x5 r) t)

end Forward

end Cert.KernelIdeal.Hand

end
-- ==== Proof.KBackward.lean ====
/- The backward loop of one grid point, element by element: lane `g` of the two sums' blocks ends as group `g`'s sum, and
   the two gradient blocks are the row functions of each row of the block. -/
module

public import proofs.«01_k».proof.Proof.KForward

@[expose] public section

set_option maxRecDepth 16384

noncomputable section

namespace Cert.KernelIdeal.Hand

open Idealize.ShloMosaic Cert.KernelIdeal.Gen
open Cert.RowMath (col grp)

/-- The lane masks of a trip: lane `4 k + a`. -/
theorem lane_trip (k : Fin 7) (h : k.val < k0_t2_loop.trips) (r : Fin 256) (l : Fin 128) (a : ℕ) (ha : a < 4) (i : S256x128.Idx)
    (hi : i = ix2 r l) :
    cmpi .eq laneV (broadcast S256x128 (Scalar.addi (Scalar.muli (Scf.iv 0#32 1#32 (⟨k.val, h⟩ : Fin k0_t2_loop.trips)) 4#32)
      (BitVec.ofNat 32 a))) i = BitVec.ofBool (decide (l.val = 4 * k.val + a)) := by
  subst hi
  have hk := k.isLt
  have e : Scalar.addi (Scalar.muli (Scf.iv 0#32 1#32 (⟨k.val, h⟩ : Fin k0_t2_loop.trips)) 4#32) (BitVec.ofNat 32 a)
      = BitVec.ofNat 32 (4 * k.val + a) := by
    refine BitVec.eq_of_toNat_eq ?_
    simp [Scalar.addi, Scalar.muli, IntOp.addi, IntOp.muli, Scf.iv]
    omega
  rw [e]
  exact lane_eq r l _ (by omega)

/-- A select at an index. -/
theorem select_apply {s : Shape} (c : IVec s 1) (a b : FVec Ideal s .f32) (i : s.Idx) :
    select c a b i = Scalar.select (c i) (a i) (b i) := rfl

/-- Row `r`'s sum over the 128 columns from column `128 a`. -/
def quarterSum (P : FVec Ideal S256x512 .f32) (r : Fin 256) (a : Fin 4) : EReal :=
  ∑ j : Fin 128, P (ix2 r (⟨a.val * 128 + j.val, by omega⟩ : Fin 512))

/-- Four masked writes: the lanes of trip `k` take the four sums, the others keep theirs. -/
theorem four_selects (k : Fin 7) (l : Fin 128) (S : Fin 4 → EReal) (v : EReal) :
    Scalar.select (BitVec.ofBool (decide (l.val = 4 * k.val + 3))) (S 3)
      (Scalar.select (BitVec.ofBool (decide (l.val = 4 * k.val + 2))) (S 2)
        (Scalar.select (BitVec.ofBool (decide (l.val = 4 * k.val + 1))) (S 1)
          (Scalar.select (BitVec.ofBool (decide (l.val = 4 * k.val + 0))) (S 0) v)))
      = if l.val / 4 = k.val then S ⟨l.val % 4, Nat.mod_lt _ (by norm_num)⟩ else v := by
  have key : ∀ (p : Prop) [Decidable p] (x y : EReal), Scalar.select (BitVec.ofBool (decide p)) x y = if p then x else y := by
    intro p _ x y
    by_cases hp : p <;> simp [hp, Scalar.select]
  simp only [key]
  by_cases h : l.val / 4 = k.val
  · rw [if_pos h]
    have h4 : l.val % 4 < 4 := Nat.mod_lt _ (by norm_num)
    by_cases h3 : l.val = 4 * k.val + 3
    · rw [if_pos h3]; exact congrArg S (Fin.ext (by show 3 = l.val % 4; omega))
    rw [if_neg h3]
    by_cases h2 : l.val = 4 * k.val + 2
    · rw [if_pos h2]; exact congrArg S (Fin.ext (by show 2 = l.val % 4; omega))
    rw [if_neg h2]
    by_cases h1 : l.val = 4 * k.val + 1
    · rw [if_pos h1]; exact congrArg S (Fin.ext (by show 1 = l.val % 4; omega))
    rw [if_neg h1, if_pos (by omega)]; exact congrArg S (Fin.ext (by show 0 = l.val % 4; omega))
  · rw [if_neg h, if_neg (by omega), if_neg (by omega), if_neg (by omega), if_neg (by omega)]

section Steps
variable (e : Vec Ideal S256x6144 .bf16) (x0 : Vec Ideal S6144x3584 .fp8e4m3) (d : Vec Ideal S256x3584 .f32)
  (om : Vec Ideal S256x3584 .bf16) (k : Fin 7) (h : k.val < k0_t2_loop.trips) (r : Fin 256) (l : Fin 128)

/-- One trip of the scale sums. -/
theorem shStep_apply (s : Vec Ideal S256x128 .f32) : shStep e x0 d ⟨k.val, h⟩ s (ix2 r l)
    = if l.val / 4 = k.val then quarterSum (k0_pay3 e (xcol x0 ⟨k.val, h⟩) (dcol d ⟨k.val, h⟩)) r ⟨l.val % 4, Nat.mod_lt _ (by norm_num)⟩
      else s (ix2 r l) := by
  have m0 := lane_trip k h r l 0 (by norm_num) _ rfl
  have m1 := lane_trip k h r l 1 (by norm_num) _ rfl
  have m2 := lane_trip k h r l 2 (by norm_num) _ rfl
  have m3 := lane_trip k h r l 3 (by norm_num) _ rfl
  rw [← four_selects]
  unfold shStep k0_pay12 k0_pay6 k0_pay5 k0_pay8 k0_pay9 k0_pay10 k0_pay11
  generalize k0_pay3 e (xcol x0 ⟨k.val, h⟩) (dcol d ⟨k.val, h⟩) = P
  unfold quarterSum
  pointwise [m0, m1, m2, m3]

/-- One trip of the clip sums. -/
theorem scStep_apply (s : Vec Ideal S256x128 .f32) : scStep e x0 om ⟨k.val, h⟩ s (ix2 r l)
    = if l.val / 4 = k.val then quarterSum (k0_pay4 e (xcol x0 ⟨k.val, h⟩) (omcol om ⟨k.val, h⟩)) r ⟨l.val % 4, Nat.mod_lt _ (by norm_num)⟩
      else s (ix2 r l) := by
  have m0 := lane_trip k h r l 0 (by norm_num) _ rfl
  have m1 := lane_trip k h r l 1 (by norm_num) _ rfl
  have m2 := lane_trip k h r l 2 (by norm_num) _ rfl
  have m3 := lane_trip k h r l 3 (by norm_num) _ rfl
  rw [← four_selects]
  unfold scStep k0_pay13 k0_pay7 k0_pay5 k0_pay8 k0_pay10 k0_pay11
  generalize k0_pay4 e (xcol x0 ⟨k.val, h⟩) (omcol om ⟨k.val, h⟩) = P
  unfold quarterSum
  pointwise [m0, m1, m2, m3]

theorem xcol_apply (t : Fin 6144) (j : Fin 512) (c : Fin 3584) (hc : c.val = k.val * 512 + j.val) :
    xcol x0 ⟨k.val, h⟩ (ix2 t j) = x0 (ix2 t c) := by
  have e0 : k0_off5 ⟨k.val, h⟩ 0 = 0 := congrFun (k0_off5_eq _) 0
  have e1 : k0_off5 ⟨k.val, h⟩ 1 = 512 * k.val := congrFun (k0_off5_eq _) 1
  refine congrArg x0 (funext fun a => ?_)
  match a with
  | ⟨0, _⟩ => exact Fin.ext (by show k0_off5 ⟨k.val, h⟩ 0 + 1 * t.val = t.val; omega)
  | ⟨1, _⟩ => exact Fin.ext (by show k0_off5 ⟨k.val, h⟩ 1 + 1 * j.val = c.val; omega)

theorem dcol_apply (j : Fin 512) (c : Fin 3584) (hc : c.val = k.val * 512 + j.val) :
    dcol d ⟨k.val, h⟩ (ix2 r j) = d (ix2 r c) := by
  have e0 : k0_off6 ⟨k.val, h⟩ 0 = 0 := congrFun (k0_off6_eq _) 0
  have e1 : k0_off6 ⟨k.val, h⟩ 1 = 512 * k.val := congrFun (k0_off6_eq _) 1
  refine congrArg d (funext fun a => ?_)
  match a with
  | ⟨0, _⟩ => exact Fin.ext (by show k0_off6 ⟨k.val, h⟩ 0 + 1 * r.val = r.val; omega)
  | ⟨1, _⟩ => exact Fin.ext (by show k0_off6 ⟨k.val, h⟩ 1 + 1 * j.val = c.val; omega)

theorem omcol_apply (j : Fin 512) (c : Fin 3584) (hc : c.val = k.val * 512 + j.val) :
    omcol om ⟨k.val, h⟩ (ix2 r j) = om (ix2 r c) := by
  have e0 : k0_off6 ⟨k.val, h⟩ 0 = 0 := congrFun (k0_off6_eq _) 0
  have e1 : k0_off6 ⟨k.val, h⟩ 1 = 512 * k.val := congrFun (k0_off6_eq _) 1
  refine congrArg om (funext fun a => ?_)
  match a with
  | ⟨0, _⟩ => exact Fin.ext (by show k0_off6 ⟨k.val, h⟩ 0 + 1 * r.val = r.val; omega)
  | ⟨1, _⟩ => exact Fin.ext (by show k0_off6 ⟨k.val, h⟩ 1 + 1 * j.val = c.val; omega)

/-- A trip's product of the scaled errors with the codes. -/
theorem pay2_apply (X : Vec Ideal S6144x512 .fp8e4m3) (j : Fin 512) :
    k0_pay2 e X (ix2 r j) = ∑ t : Fin 6144, e (ix2 r t) * X (ix2 t j) := by
  unfold k0_pay2
  pointwise [dot_S256x6144_S6144x512_S256x512_1_0_0_1_n_n]

/-- Group `g`'s scale sum of row `r`, as its trip computes it. -/
theorem quarter_sh (g : Fin 28) (hg : g.val / 4 = k.val) (a : Fin 4) (ha : a.val = g.val % 4) :
    quarterSum (k0_pay3 e (xcol x0 ⟨k.val, h⟩) (dcol d ⟨k.val, h⟩)) r a
      = ∑ j : Fin 128, (∑ t : Fin 6144, e (ix2 r t) * x0 (ix2 t (col g j))) * d (ix2 r (col g j)) := by
  refine Finset.sum_congr rfl fun j _ => ?_
  have hc : (col g j).val = k.val * 512 + (a.val * 128 + j.val) := by show g.val * 128 + j.val = _; omega
  show k0_pay2 e _ _ * _ = _
  rw [pay2_apply, dcol_apply d k h r _ (col g j) hc]
  exact congrArg (· * _) (Finset.sum_congr rfl fun t _ => congrArg (_ * ·) (xcol_apply x0 k h t _ (col g j) hc))

/-- Group `g`'s clip sum of row `r`, as its trip computes it. -/
theorem quarter_sc (g : Fin 28) (hg : g.val / 4 = k.val) (a : Fin 4) (ha : a.val = g.val % 4) :
    quarterSum (k0_pay4 e (xcol x0 ⟨k.val, h⟩) (omcol om ⟨k.val, h⟩)) r a
      = ∑ j : Fin 128, (∑ t : Fin 6144, e (ix2 r t) * x0 (ix2 t (col g j))) * om (ix2 r (col g j)) := by
  refine Finset.sum_congr rfl fun j _ => ?_
  have hc : (col g j).val = k.val * 512 + (a.val * 128 + j.val) := by show g.val * 128 + j.val = _; omega
  show k0_pay2 e _ _ * omcol om ⟨k.val, h⟩ _ = _
  rw [pay2_apply, omcol_apply om k h r _ (col g j) hc]
  exact congrArg (· * _) (Finset.sum_congr rfl fun t _ => congrArg (_ * ·) (xcol_apply x0 k h t _ (col g j) hc))

end Steps

section Lanes
variable (e : Vec Ideal S256x6144 .bf16) (x0 : Vec Ideal S6144x3584 .fp8e4m3) (d : Vec Ideal S256x3584 .f32)
  (om : Vec Ideal S256x3584 .bf16) (r : Fin 256) (g : Fin 28)

/-- After the first `n` trips the lanes of their groups hold the groups' scale sums. -/
theorem shF_apply : ∀ n : ℕ, n ≤ 7 → g.val < 4 * n → shF e x0 d n (ix2 r (⟨g.val, by omega⟩ : Fin 128))
    = ∑ j : Fin 128, (∑ t : Fin 6144, e (ix2 r t) * x0 (ix2 t (col g j))) * d (ix2 r (col g j))
  | 0, _, hg => absurd hg (Nat.not_lt_zero _)
  | n + 1, hn, hg => by
    have h : n < k0_t2_loop.trips := by rw [trips2]; omega
    rw [shF, dif_pos h, shStep_apply e x0 d ⟨n, by omega⟩ h]
    by_cases e1 : g.val / 4 = n
    · rw [if_pos e1]; exact quarter_sh e x0 d ⟨n, by omega⟩ h r g e1 _ rfl
    · rw [if_neg e1]; exact shF_apply n (by omega) (by omega)

/-- After the first `n` trips the lanes of their groups hold the groups' clip sums. -/
theorem scF_apply : ∀ n : ℕ, n ≤ 7 → g.val < 4 * n → scF e x0 om n (ix2 r (⟨g.val, by omega⟩ : Fin 128))
    = ∑ j : Fin 128, (∑ t : Fin 6144, e (ix2 r t) * x0 (ix2 t (col g j))) * om (ix2 r (col g j))
  | 0, _, hg => absurd hg (Nat.not_lt_zero _)
  | n + 1, hn, hg => by
    have h : n < k0_t2_loop.trips := by rw [trips2]; omega
    rw [scF, dif_pos h, scStep_apply e x0 om ⟨n, by omega⟩ h]
    by_cases e1 : g.val / 4 = n
    · rw [if_pos e1]; exact quarter_sc e x0 om ⟨n, by omega⟩ h r g e1 _ rfl
    · rw [if_neg e1]; exact scF_apply n (by omega) (by omega)

/-- The load of the first 28 lanes. -/
theorem ldLanes_apply (x : Vec Ideal S256x128 .f32) :
    View.ld x (Rect.unit (s := S256x128) ![0, 0] S256x28.size inb_S256x128_S256x28_0_0) (ix2 r g) = x (ix2 r (⟨g.val, by omega⟩ : Fin 128)) := by
  refine congrArg x (funext fun a => ?_)
  match a with
  | ⟨0, _⟩ => exact Fin.ext (by show 0 + 1 * r.val = r.val; omega)
  | ⟨1, _⟩ => exact Fin.ext (by show 0 + 1 * g.val = g.val; omega)

end Lanes

section Point
variable (x0 : Vec Ideal S6144x3584 .fp8e4m3) (x1 : Vec Ideal S1x6144 .f32) (x2 : Vec Ideal S256x3584 .f32)
  (x3 x4 : Vec Ideal S256x28 .f32) (x5 : Vec Ideal S6144x256 .bf16) (r : Fin 256) (g : Fin 28)

/-- The scale sums of the block's rows. -/
theorem shS_apply : shS x0 x1 x2 x3 x4 x5 (ix2 r g)
    = RowMath.sh (rowOf x2 r) (rowOf x3 r) (rowOf x4 r) (tokX x0) (tokS x1) (tokY x5 r) g := by
  unfold shS
  rw [ldLanes_apply, shF_apply _ _ _ _ g 7 le_rfl (by omega)]
  unfold RowMath.sh RowMath.gW
  refine Finset.sum_congr rfl fun j _ => ?_
  rw [dS_apply]
  exact congrArg (· * _) (Finset.sum_congr rfl fun t _ => congrArg (· * _) (eS_apply x0 x1 x2 x3 x4 x5 r t))

/-- The clip sums of the block's rows. -/
theorem scS_apply : scS x0 x1 x2 x3 x4 x5 (ix2 r g)
    = RowMath.sc (rowOf x2 r) (rowOf x3 r) (rowOf x4 r) (tokX x0) (tokS x1) (tokY x5 r) g := by
  unfold scS
  rw [ldLanes_apply, scF_apply _ _ _ _ g 7 le_rfl (by omega)]
  unfold RowMath.sc RowMath.gW
  refine Finset.sum_congr rfl fun j _ => ?_
  rw [omS_apply]
  exact congrArg (· * _) (Finset.sum_congr rfl fun t _ => congrArg (· * _) (eS_apply x0 x1 x2 x3 x4 x5 r t))

/-- The gradients in the upper clipping parameters of the block's rows. -/
theorem dgS_apply : dgS x0 x1 x2 x3 x4 x5 (ix2 r g)
    = RowMath.dgR (rowOf x2 r) (rowOf x3 r) (rowOf x4 r) (tokX x0) (tokS x1) (tokY x5 r) g := by
  have hs := shS_apply x0 x1 x2 x3 x4 x5 r g
  unfold dgS
  rw [ld28_eq]
  generalize shS x0 x1 x2 x3 x4 x5 = s at hs
  unfold k0_pay396 k0_pay394 k0_pay42 k0_pay44
  pointwise [hs, wmax_eq]
  unfold RowMath.dgR
  rfl

/-- The gradients in the lower clipping parameters of the block's rows. -/
theorem dbS_apply : dbS x0 x1 x2 x3 x4 x5 (ix2 r g)
    = RowMath.dbR (rowOf x2 r) (rowOf x3 r) (rowOf x4 r) (tokX x0) (tokS x1) (tokY x5 r) g := by
  have hs := shS_apply x0 x1 x2 x3 x4 x5 r g
  have hc := scS_apply x0 x1 x2 x3 x4 x5 r g
  unfold dbS
  rw [ld28_eq]
  generalize shS x0 x1 x2 x3 x4 x5 = s at hs
  generalize scS x0 x1 x2 x3 x4 x5 = u at hc
  unfold k0_pay1 k0_pay394 k0_pay395 k0_pay43 k0_pay45
  pointwise [hs, hc, wmin_eq]
  unfold RowMath.dbR
  rfl

end Point

end Cert.KernelIdeal.Hand

end
-- ==== Proof.Results.lean ====
/- The six results as functions of the six arguments: each row of the weights is a row of the mathematics in
   Proof/RowMath.lean, with the 6144 tokens numbered batch by batch. Both programs are shown to end holding these. -/
module

public import proofs.«01_k».proof.Proof.RowMath

@[expose] public section

noncomputable section

namespace Cert.Results

open Idealize.ShloMosaic

/-- The (batch, position) of token `t`. -/
abbrev tokB (t : Fin 6144) : Fin 16 := ⟨t.val / 384, by omega⟩
abbrev tokP (t : Fin 6144) : Fin 384 := ⟨t.val % 384, by omega⟩

/-- Row `o` of a matrix. -/
abbrev rowAt {a b : ℕ} (A : (⟨2, ![a, b]⟩ : Shape).Idx → EReal) (o : Fin a) : Fin b → EReal := fun d => A (ix2 o d)

section
variable (A0 : (⟨3, ![16, 384, 3584]⟩ : Shape).Idx → EReal) (A1 : (⟨2, ![16, 384]⟩ : Shape).Idx → EReal)
  (A2 : (⟨2, ![18944, 3584]⟩ : Shape).Idx → EReal) (A3 A4 : (⟨2, ![18944, 28]⟩ : Shape).Idx → EReal)
  (A5 : (⟨3, ![16, 384, 18944]⟩ : Shape).Idx → EReal)

/-- The codes, the scales and row `o`'s targets, token by token. -/
def X : Fin 6144 → Fin 3584 → EReal := fun t d => A0 (ix3 (tokB t) (tokP t) d)
def XS : Fin 6144 → EReal := fun t => A1 (ix2 (tokB t) (tokP t))
def Y (o : Fin 18944) : Fin 6144 → EReal := fun t => A5 (ix3 (tokB t) (tokP t) o)

/-- The gradient in the upper clipping parameters. -/
def dg : (⟨2, ![18944, 28]⟩ : Shape).Idx → EReal := fun i =>
  RowMath.dgR (rowAt A2 (i 0)) (rowAt A3 (i 0)) (rowAt A4 (i 0)) (X A0) (XS A1) (Y A5 (i 0)) (i 1)
/-- The gradient in the lower clipping parameters. -/
def db : (⟨2, ![18944, 28]⟩ : Shape).Idx → EReal := fun i =>
  RowMath.dbR (rowAt A2 (i 0)) (rowAt A3 (i 0)) (rowAt A4 (i 0)) (X A0) (XS A1) (Y A5 (i 0)) (i 1)
/-- The sum of the squared errors. -/
def sqSum : EReal := ∑ o : Fin 18944, ∑ t : Fin 6144, RowMath.sq (rowAt A2 o) (rowAt A3 o) (rowAt A4 o) (X A0) (XS A1) (Y A5 o) t
/-- The loss. -/
def loss : EReal := Ideal.div (sqSum A0 A1 A2 A3 A4 A5) RowMath.kN
/-- The integer codes. -/
def q : (⟨2, ![18944, 3584]⟩ : Shape).Idx → BitVec 8 := fun i => RowMath.qR (rowAt A2 (i 0)) (rowAt A3 (i 0)) (rowAt A4 (i 0)) (i 1)
/-- The scales. -/
def h : (⟨2, ![18944, 28]⟩ : Shape).Idx → EReal := fun i => RowMath.hG (rowAt A2 (i 0)) (rowAt A3 (i 0)) (rowAt A4 (i 0)) (i 1)
/-- The zero points. -/
def z : (⟨2, ![18944, 28]⟩ : Shape).Idx → EReal := fun i => RowMath.zG (rowAt A2 (i 0)) (rowAt A3 (i 0)) (rowAt A4 (i 0)) (i 1)

end

end Cert.Results

end
-- ==== Proof.KArray.lean ====
/- What the kernel's arrays hold after the run: every row of the five blockwise results is the row function of the
   arguments' row, and the loss block's elements together are the sum of all squared errors. -/
module

public import proofs.«01_k».proof.Proof.KFrame
public import proofs.«01_k».proof.Proof.KBackward
public import proofs.«01_k».proof.Proof.Results
public import Idealize.ShloMosaic.Lib.Pipeline.ValueKit

@[expose] public section

set_option maxRecDepth 16384

noncomputable section

namespace Cert.KernelIdeal.Hand

open Idealize.ShloMosaic Idealize.ShloMosaic.TcCoe Cert.KernelIdeal.Gen
open Cert.RowMath (col grp)

variable (m : (ℓ : Loc nD τ sig) → Buf (Elt Ideal) ℓ) (c : Dev nD)

/-- Every window's block index at a point. -/
theorem index_eq : ∀ t : Fin cfg0.N, win0_0.index t = ![0, 0] ∧ win0_1.index t = ![0, 0] ∧ win0_2.index t = ![t.val, 0]
    ∧ win0_3.index t = ![t.val, 0] ∧ win0_4.index t = ![t.val, 0] ∧ win0_5.index t = ![0, t.val] ∧ win0_6.index t = ![t.val, 0]
    ∧ win0_7.index t = ![t.val, 0] ∧ win0_9.index t = ![t.val, 0] ∧ win0_10.index t = ![t.val, 0] ∧ win0_11.index t = ![t.val, 0] :=
  (by decide +kernel : ∀ t : Fin grid0.N, _)

/-- The six arguments. -/
abbrev arg0 : (⟨3, ![16, 384, 3584]⟩ : Shape).Idx → EReal := m ((c : Thread nD τ).loc main_arg0)
abbrev arg1 : (⟨2, ![16, 384]⟩ : Shape).Idx → EReal := m ((c : Thread nD τ).loc main_arg1)
abbrev arg2 : (⟨2, ![18944, 3584]⟩ : Shape).Idx → EReal := m ((c : Thread nD τ).loc main_arg2)
abbrev arg3 : (⟨2, ![18944, 28]⟩ : Shape).Idx → EReal := m ((c : Thread nD τ).loc main_arg3)
abbrev arg4 : (⟨2, ![18944, 28]⟩ : Shape).Idx → EReal := m ((c : Thread nD τ).loc main_arg4)
abbrev arg5 : (⟨3, ![16, 384, 18944]⟩ : Shape).Idx → EReal := m ((c : Thread nD τ).loc main_arg5)

/-- Row `r` of block `t`. -/
def orow (t : Fin cfg0.N) (r : Fin 256) : Fin 18944 := ⟨t.val * 256 + r.val, by
  have : t.val < 74 := Nat.lt_of_lt_of_eq t.isLt N_0; omega⟩

section Blocks
variable (t : Fin cfg0.N)

/-- Every index of a matrix is a row and a column. -/
theorem exists_ix2 {a b : ℕ} (y : (⟨2, ![a, b]⟩ : Shape).Idx) : ∃ (r : Fin a) (g : Fin b), y = ix2 r g :=
  ⟨y 0, y 1, funext fun i => match i with | ⟨0, _⟩ => rfl | ⟨1, _⟩ => rfl⟩

/-! A block's element sits in its array at the block's rows. -/
theorem emb0 (s : Fin 6144) (d : Fin 3584) : (win0_0.blk t).view.emb (ix2 s d) = ix2 s d := by
  blk_ext [(index_eq t).1]
theorem emb1 (s : Fin 6144) : (win0_1.blk t).view.emb (ix2 0 s) = ix2 0 s := by
  blk_ext [(index_eq t).2.1]
theorem emb2 (r : Fin 256) (d : Fin 3584) : (win0_2.blk t).view.emb (ix2 r d) = ix2 (orow t r) d := by
  blk_ext [(index_eq t).2.2.1, orow]
theorem emb3 (r : Fin 256) (g : Fin 28) : (win0_3.blk t).view.emb (ix2 r g) = ix2 (orow t r) g := by
  blk_ext [(index_eq t).2.2.2.1, orow]
theorem emb4 (r : Fin 256) (g : Fin 28) : (win0_4.blk t).view.emb (ix2 r g) = ix2 (orow t r) g := by
  blk_ext [(index_eq t).2.2.2.2.1, orow]
theorem emb5 (s : Fin 6144) (r : Fin 256) : (win0_5.blk t).view.emb (ix2 s r) = ix2 s (orow t r) := by
  blk_ext [(index_eq t).2.2.2.2.2.1, orow]
theorem emb6 (r : Fin 256) (g : Fin 28) : (win0_6.blk t).view.emb (ix2 r g) = ix2 (orow t r) g := by
  blk_ext [(index_eq t).2.2.2.2.2.2.1, orow]
theorem emb7 (r : Fin 256) (g : Fin 28) : (win0_7.blk t).view.emb (ix2 r g) = ix2 (orow t r) g := by
  blk_ext [(index_eq t).2.2.2.2.2.2.2.1, orow]
theorem emb9 (r : Fin 256) (d : Fin 3584) : (win0_9.blk t).view.emb (ix2 r d) = ix2 (orow t r) d := by
  blk_ext [(index_eq t).2.2.2.2.2.2.2.2.1, orow]
theorem emb10 (r : Fin 256) (g : Fin 28) : (win0_10.blk t).view.emb (ix2 r g) = ix2 (orow t r) g := by
  blk_ext [(index_eq t).2.2.2.2.2.2.2.2.2.1, orow]
theorem emb11 (r : Fin 256) (g : Fin 28) : (win0_11.blk t).view.emb (ix2 r g) = ix2 (orow t r) g := by
  blk_ext [(index_eq t).2.2.2.2.2.2.2.2.2.2, orow]

/-! The three reshaped arguments. -/
theorem V_main_v0 : V m c main_v0 = shapeCast S6144x3584 (arg0 m c) shapeCasts_S16x384x3584_S6144x3584 := by
  show StableHlo.after (hostOps0 (F := Ideal)) (fun b => m (c, b)) (Proc.devRef .tc main_v0) = _
  unfold hostOps0
  after_results
  rfl
theorem V_main_v1 : V m c main_v1 = shapeCast S1x6144 (arg1 m c) shapeCasts_S16x384_S1x6144 := by
  show StableHlo.after (hostOps0 (F := Ideal)) (fun b => m (c, b)) (Proc.devRef .tc main_v1) = _
  unfold hostOps0
  after_results
  rfl
theorem V_main_v2 : V m c main_v2 = shapeCast S6144x18944 (arg5 m c) shapeCasts_S16x384x18944_S6144x18944 := by
  show StableHlo.after (hostOps0 (F := Ideal)) (fun b => m (c, b)) (Proc.devRef .tc main_v2) = _
  unfold hostOps0
  after_results
  rfl

/-! The blocks' rows are the arguments' rows, the tokens' arrays the arguments' token by token. -/
theorem rows2 (r : Fin 256) : rowOf (iblk m c 2 t) r = Results.rowAt (arg2 m c) (orow t r) := by
  funext d
  show iblk m c 2 t (ix2 r d) = arg2 m c (ix2 (orow t r) d)
  blk_simp [iblk]
  rw [emb2, V_main_arg2]
theorem rows3 (r : Fin 256) : rowOf (iblk m c 3 t) r = Results.rowAt (arg3 m c) (orow t r) := by
  funext d
  show iblk m c 3 t (ix2 r d) = arg3 m c (ix2 (orow t r) d)
  blk_simp [iblk]
  rw [emb3, V_main_arg3]
theorem rows4 (r : Fin 256) : rowOf (iblk m c 4 t) r = Results.rowAt (arg4 m c) (orow t r) := by
  funext d
  show iblk m c 4 t (ix2 r d) = arg4 m c (ix2 (orow t r) d)
  blk_simp [iblk]
  rw [emb4, V_main_arg4]
theorem tokens0 : tokX (iblk m c 0 t) = Results.X (arg0 m c) := by
  funext s d
  show iblk m c 0 t (ix2 s d) = _
  blk_simp [iblk]
  rw [emb0]
  unfold Results.X
  rw [V_main_v0]
  pointwise
theorem tokens1 : tokS (iblk m c 1 t) = Results.XS (arg1 m c) := by
  funext s
  show iblk m c 1 t (ix2 0 s) = _
  blk_simp [iblk]
  rw [emb1]
  unfold Results.XS
  rw [V_main_v1]
  pointwise
theorem tokens5 (r : Fin 256) : tokY (iblk m c 5 t) r = Results.Y (arg5 m c) (orow t r) := by
  funext s
  show iblk m c 5 t (ix2 s r) = _
  blk_simp [iblk]
  rw [emb5]
  unfold Results.Y
  rw [V_main_v2]
  pointwise

end Blocks

/-- The array of the upper parameters' gradients. -/
theorem final_6 : (dats m 0 c).arrAt 6 cfg0.N = Results.dg (arg0 m c) (arg1 m c) (arg2 m c) (arg3 m c) (arg4 m c) (arg5 m c) := by
  refine (dats m 0 c).arrAt_eq_of_covers 6 _ (by decide +kernel) fun t hf y => ?_
  blk_simp
  rw [after0_6]
  obtain ⟨r, g, rfl⟩ := exists_ix2 y
  rw [emb6, dgS_apply, rows2, rows3, rows4, tokens0, tokens1, tokens5]
  rfl

/-- The array of the lower parameters' gradients. -/
theorem final_7 : (dats m 0 c).arrAt 7 cfg0.N = Results.db (arg0 m c) (arg1 m c) (arg2 m c) (arg3 m c) (arg4 m c) (arg5 m c) := by
  refine (dats m 0 c).arrAt_eq_of_covers 7 _ (by decide +kernel) fun t hf y => ?_
  blk_simp
  rw [after0_7]
  obtain ⟨r, g, rfl⟩ := exists_ix2 y
  rw [emb7, dbS_apply, rows2, rows3, rows4, tokens0, tokens1, tokens5]
  rfl

/-- The array of the codes. -/
theorem final_9 : (dats m 0 c).arrAt 9 cfg0.N = Results.q (arg2 m c) (arg3 m c) (arg4 m c) := by
  refine (dats m 0 c).arrAt_eq_of_covers 9 _ (by decide +kernel) fun t hf y => ?_
  blk_simp
  rw [after0_9]
  obtain ⟨r, g, rfl⟩ := exists_ix2 y
  rw [emb9, qS_apply, rows2, rows3, rows4]
  rfl

/-- The array of the scales. -/
theorem final_10 : (dats m 0 c).arrAt 10 cfg0.N = Results.h (arg2 m c) (arg3 m c) (arg4 m c) := by
  refine (dats m 0 c).arrAt_eq_of_covers 10 _ (by decide +kernel) fun t hf y => ?_
  blk_simp
  rw [after0_10]
  obtain ⟨r, g, rfl⟩ := exists_ix2 y
  rw [emb10, hS_apply, rows2, rows3, rows4]
  rfl

/-- The array of the zero points. -/
theorem final_11 : (dats m 0 c).arrAt 11 cfg0.N = Results.z (arg2 m c) (arg3 m c) (arg4 m c) := by
  refine (dats m 0 c).arrAt_eq_of_covers 11 _ (by decide +kernel) fun t hf y => ?_
  blk_simp
  rw [after0_11]
  obtain ⟨r, g, rfl⟩ := exists_ix2 y
  rw [emb11, zS_apply, rows2, rows3, rows4]
  rfl

/-! ## The loss block -/

/-- The squared errors of a block's rows. -/
def sqBlock (t : Fin 74) : EReal := ∑ r : Fin 256, ∑ s : Fin 6144, RowMath.sq
  (Results.rowAt (arg2 m c) ⟨t.val * 256 + r.val, by omega⟩) (Results.rowAt (arg3 m c) ⟨t.val * 256 + r.val, by omega⟩)
  (Results.rowAt (arg4 m c) ⟨t.val * 256 + r.val, by omega⟩) (Results.X (arg0 m c)) (Results.XS (arg1 m c))
  (Results.Y (arg5 m c) ⟨t.val * 256 + r.val, by omega⟩) s

/-- A point adds its rows' squared errors to the block. -/
theorem lossS_block (t : Fin cfg0.N) (ht : t.val < 74) (l0 : Vec Ideal S8x128 .f32) :
    ∑ i : Fin 8, ∑ l : Fin 128, lossS (iblk m c 0 t) (iblk m c 1 t) (iblk m c 2 t) (iblk m c 3 t) (iblk m c 4 t) (iblk m c 5 t) l0 (ix2 i l)
      = (∑ i : Fin 8, ∑ l : Fin 128, l0 (ix2 i l)) + sqBlock m c ⟨t.val, ht⟩ := by
  rw [lossS_sum, tokens0, tokens1]
  refine congrArg (_ + ·) (Finset.sum_congr rfl fun r _ => ?_)
  rw [rows2, rows3, rows4, tokens5]
  rfl

/-- The block after point `n`: the squared errors of the first `n + 1` blocks. -/
theorem lossAt_sum : ∀ n : ℕ, n < 74 → ∑ i : Fin 8, ∑ l : Fin 128, lossAt m c n (ix2 i l)
    = ∑ k ∈ Finset.range (n + 1), if h : k < 74 then sqBlock m c ⟨k, h⟩ else 0
  | 0, h => by
    have hN : 0 < cfg0.N := Nat.lt_of_lt_of_eq h N_0.symm
    rw [show lossAt m c 0 = _ from lossAt_start m c ⟨0, hN⟩ rfl, lossS_block m c ⟨0, hN⟩ h (k0_pay14 (F := Ideal))]
    rw [Finset.sum_range_succ, Finset.sum_range_zero, dif_pos h]
    refine congrArg (· + _) (Finset.sum_eq_zero fun i _ => Finset.sum_eq_zero fun l _ => ?_)
    unfold k0_pay14
    pointwise
  | n + 1, h => by
    have hN : n + 1 < cfg0.N := Nat.lt_of_lt_of_eq h N_0.symm
    rw [show lossAt m c (n + 1) = _ from lossAt_next m c ⟨n + 1, hN⟩ (by show ¬ (n + 1) % 74 = 0; omega),
      lossS_block m c ⟨n + 1, hN⟩ h, show n + 1 - 1 = n from rfl, lossAt_sum n (by omega), Finset.sum_range_succ _ (n + 1), dif_pos h]

/-- The loss block after the last point: the sum of all squared errors. -/
theorem lossAt_total : ∑ i : Fin 8, ∑ l : Fin 128, lossAt m c 73 (ix2 i l)
    = Results.sqSum (arg0 m c) (arg1 m c) (arg2 m c) (arg3 m c) (arg4 m c) (arg5 m c) := by
  rw [lossAt_sum m c 73 (by norm_num), Finset.sum_range]
  simp only [Fin.is_lt, dite_true, Fin.eta]
  exact Fin.sum_mul_add_fin 74 256 (fun o : Fin 18944 => ∑ t : Fin 6144, RowMath.sq (Results.rowAt (arg2 m c) o) (Results.rowAt (arg3 m c) o)
    (Results.rowAt (arg4 m c) o) (Results.X (arg0 m c)) (Results.XS (arg1 m c)) (Results.Y (arg5 m c) o) t)

/-- The loss block's array is what the last point left. -/
theorem final_8 : (dats m 0 c).arrAt 8 cfg0.N = lossAt m c 73 := by
  refine (dats m 0 c).arrAt_eq_of_after_last 8 ⟨73, by decide⟩ (by decide +kernel) _ fun j => ?_
  exact congrFun (after0_8 m c ⟨73, by decide⟩) j

end Cert.KernelIdeal.Hand

end
-- ==== Proof.KRunValue.lean ====
/- The kernel program's run: from any contents it ends with the six results of Proof/Results.lean in its result buffers
   and its arguments unchanged. -/
module

public import proofs.«01_k».proof.Proof.KArray

@[expose] public section

set_option maxRecDepth 16384

noncomputable section

namespace Cert.KernelIdeal.Hand

open Idealize.ShloMosaic Cert.KernelIdeal.Gen
open Cert.RowMath (col grp)

variable (m : (ℓ : Loc nD τ sig) → Buf (Elt Ideal) ℓ) (ρ : Dev nD → PrngReg)

/-- The host's division of the summed loss block is the loss. -/
theorem final_loss (c : Dev nD) :
    Pipeline.afterTail₀ cfgs (dats m) 0 (V0 m) [hostOps1] c main_v5 = fun _ =>
      Results.loss (arg0 m c) (arg1 m c) (arg2 m c) (arg3 m c) (arg4 m c) (arg5 m c) := by
  unfold Pipeline.afterTail₀
  show StableHlo.after (hostOps1 (F := Ideal)) _ (Proc.devRef .tc main_v5) = _
  unfold hostOps1
  after_results
  rw [show (Pipeline.withArrays spec0 c (V0 m c) fun w => (dats m 0 c).arrAt w cfg0.N) (Proc.devRef .tc main_v3_2) = (dats m 0 c).arrAt 8 cfg0.N from ?_]
  · funext j
    rw [final_8]
    show Ideal.div (Host.reduceAdd (lossAt m c 73) _ reducesTo_S8x128_S_d0_1 h_S_ j) RowMath.kN = _
    pointwise
    exact congrArg (Ideal.div · RowMath.kN) (lossAt_total m c)
  · exact Pipeline.withArrays_arr _ launch0.win.arr_inj _ _ _ 8

/-- The kernel's run and everything it leaves. -/
theorem run_results : θ_run defs (onTc (τ := τ) (main (F := Ideal))) ⟨m, fun _ => 0, ρ⟩ (fun r => ∀ c : Dev nD,
      r.2.mem ((c.tc : Thread nD τ).loc main_v3_0) = Results.dg (arg0 m c) (arg1 m c) (arg2 m c) (arg3 m c) (arg4 m c) (arg5 m c)
      ∧ r.2.mem ((c.tc : Thread nD τ).loc main_v3_1) = Results.db (arg0 m c) (arg1 m c) (arg2 m c) (arg3 m c) (arg4 m c) (arg5 m c)
      ∧ r.2.mem ((c.tc : Thread nD τ).loc main_v5) = (fun _ => Results.loss (arg0 m c) (arg1 m c) (arg2 m c) (arg3 m c) (arg4 m c) (arg5 m c))
      ∧ r.2.mem ((c.tc : Thread nD τ).loc main_v3_3) = Results.q (arg2 m c) (arg3 m c) (arg4 m c)
      ∧ r.2.mem ((c.tc : Thread nD τ).loc main_v3_4) = Results.h (arg2 m c) (arg3 m c) (arg4 m c)
      ∧ r.2.mem ((c.tc : Thread nD τ).loc main_v3_5) = Results.z (arg2 m c) (arg3 m c) (arg4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (final_6 m c), ((h.1 c).1 7).trans (final_7 m c),
      ((h.1 c).2 main_v5 (Pipeline.mem_restRefs_of main_v5 (by decide) (by decide))).trans (final_loss m c),
      ((h.1 c).1 9).trans (final_9 m c), ((h.1 c).1 10).trans (final_10 m c), ((h.1 c).1 11).trans (final_11 m c), h.2 c⟩)
    (θ_run_and (run_main m ρ) (unchanged m ρ))

end Cert.KernelIdeal.Hand

end
-- ==== Proof.Word.KRuns.lean ====
/- What the two runs of the kernel's body share: the branch condition, the staging memrefs, the scratch memrefs. -/
module

public import proofs.«01_k».proof.Proof.Gen.Kernel.Frame
public import proofs.«01_k».proof.Proof.Gen.Kernel.Loops
public import Idealize.ShloMosaic.Lib.Exec
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 74 = 0 :=
  (fun t => by
    have ht : t.val < 74 := Nat.lt_of_lt_of_eq t.isLt N_0
    have e0 : (grid0.coords t 0).val = t.val / 1 % 74 := Pipeline.Grid.coords_val t 0 (by decide) rfl
    simp only [cond0_0, e0]
    word_cmp
   : ∀ t : Fin grid0.N, cond0_0 (grid0.coords t) ↔ t.val % 74 = 0)

/-! ## The kernel body on any staging memrefs: a subtype the run finds -/

/-- Each window's current staging memref at point `t`, spelled as the pipeline passes it (`bodyAt0`), and its wholeness. -/
abbrev ms0_0 (t : Fin cfg0.N) : Memref sig .tc .vmem S6144x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3584 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x28 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x28 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6144x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x28 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x28 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x3584 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x28 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x28 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S256x3584 .bf16 := Memref.whole cc0_scratch0
abbrev scM0_1 : Memref sig .tc .vmem S256x6144 .bf16 := Memref.whole cc0_scratch1
abbrev scM0_2 : Memref sig .tc .vmem S256x3584 .f32 := Memref.whole cc0_scratch2
abbrev scM0_3 : Memref sig .tc .vmem S256x3584 .bf16 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S256x128 .f32 := Memref.whole cc0_scratch6
abbrev scM0_7 : Memref sig .tc .vmem S256x128 .f32 := Memref.whole cc0_scratch7
abbrev scM0_8 : Memref sig .tc .vmem S256x128 .f32 := Memref.whole cc0_scratch8

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.Kernel.Hand

end
-- ==== Proof.Word.KSpec.lean ====
/- What one grid point of the kernel computes, as values: the twenty-eight groups' extremes, scales, codes and masks of
   one block of 256 output rows; the forward loop's loss and scaled errors; the backward loop's two sums per group; and
   the six blocks the point leaves. Stated for any float semantics, over the blocks the point reads. -/
module

public import proofs.«01_k».proof.Proof.Gen.Kernel.Frame
public import proofs.«01_k».proof.Proof.Gen.Kernel.Loops
public import Idealize.ShloMosaic.Lib.ValueIdx
public import Idealize.ShloMosaic.Lib.Pipeline.Value

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.ValueIdx

variable {F : FTy → Type} [FloatOps F]

/-! ## The twenty-eight groups of a block of rows -/

/-- Group `g`'s columns lie in the block. -/
theorem inbG (g : Fin 28) : ∀ a, (![0, 128 * g.val] : Fin 2 → ℕ) a + S256x128.size a ≤ S256x3584.size a := by
  intro a; have := g.isLt
  match a with
  | ⟨0, _⟩ => show 0 + 256 ≤ 256; omega
  | ⟨1, _⟩ => show 128 * g.val + 128 ≤ 3584; omega

/-- The rectangle of group `g`'s columns. -/
abbrev rectG (g : Fin 28) : Rect S256x3584 := Rect.unit (s := S256x3584) ![0, 128 * g.val] S256x128.size (inbG g)

/-- Column `g` of a (256, 28) block, spread over 128 lanes. -/
abbrev colG (g : Fin 28) (X : FVec F S256x28 .f32) : FVec F S256x128 .f32 :=
  broadcastTo S256x128 (shapeCast S256x1 (extractStridedSlice S256x1 ![0, g.val] X
    ⟨rfl, fun a => by
      have := g.isLt
      match a with
      | ⟨0, _⟩ => show 0 + 256 ≤ 256; omega
      | ⟨1, _⟩ => show g.val + 1 ≤ 28; omega⟩) shapeCasts_S256x1_S256x1) broadcasts_S256x1_S256x128

/-- A row statistic spread over 128 lanes. -/
abbrev rowB (X : FVec F S256 .f32) : FVec F S256x128 .f32 :=
  broadcastTo S256x128 (shapeCast S256x1 (shapeCast S256x1 X shapeCasts_S256_S256x1) shapeCasts_S256x1_S256x1)
    broadcasts_S256x1_S256x128

/-- The lane number of every element. -/
abbrev laneV : IVec S256x128 32 := iota .tc S256x128 32 [1] iota_S256x128_d1_w32

/-- Lane `g` of it is group `g`'s row maximum, for the first `n` groups. -/
def wmaxC (W : Fin 28 → FVec F S256x128 .f32) : (n : ℕ) → n ≤ 28 → FVec F S256x128 .f32
  | 0, _ => broadcast S256x128 (Scalar.ofBits .f32 0x00000000#32)
  | n + 1, h => select (cmpi .eq laneV (broadcast S256x128 (BitVec.ofNat 32 n)))
      (rowB (multiReduction .maximumf [1] S256 (W ⟨n, h⟩) 0xFF800000#32 reduces_S256x128_S256 (.inl rfl) rfl))
      (wmaxC W n (Nat.le_of_succ_le h))

/-- Lane `g` of it is group `g`'s row minimum, for the first `n` groups. -/
def wminC (W : Fin 28 → FVec F S256x128 .f32) : (n : ℕ) → n ≤ 28 → FVec F S256x128 .f32
  | 0, _ => broadcast S256x128 (Scalar.ofBits .f32 0x00000000#32)
  | n + 1, h => select (cmpi .eq laneV (broadcast S256x128 (BitVec.ofNat 32 n)))
      (rowB (multiReduction .minimumf [1] S256 (W ⟨n, h⟩) 0x7F800000#32 reduces_S256x128_S256 (.inl rfl) rfl))
      (wminC W n (Nat.le_of_succ_le h))

section Groups
variable (W : Fin 28 → FVec F S256x128 .f32) (ga be : FVec F S256x28 .f32)

/-- The scale `h` of every group, from the groups' columns `W` and the two clipping parameters. -/
abbrev hP : FVec F S256x28 .f32 := k0_pay47 (wmaxC W 28 le_rfl) (wminC W 28 le_rfl) ga be
/-- `lo / h` of every group. -/
abbrev lohP : FVec F S256x28 .f32 := k0_pay48 (wmaxC W 28 le_rfl) (wminC W 28 le_rfl) ga be
/-- The zero point of every group. -/
abbrev zP : FVec F S256x28 .f32 := k0_pay49 (wmaxC W 28 le_rfl) (wminC W 28 le_rfl) ga be

variable (h z loh : FVec F S256x28 .f32) (g : Fin 28)

/-- Group `g`'s unrounded code. -/
abbrev uP : FVec F S256x128 .f32 := divf (W g) (colG g h)
/-- Group `g`'s code before the clip. -/
abbrev cP : FVec F S256x128 .f32 := addf (roundeven (uP W h g)) (colG g z)
/-- Group `g`'s code as a float. -/
abbrev qfP : FVec F S256x128 .f32 := minimumf (broadcast S256x128 (Scalar.ofBits .f32 0x41700000#32))
  (maximumf (broadcast S256x128 (Scalar.ofBits .f32 0x00000000#32)) (cP W h z g))
/-- Group `g`'s code minus its zero point. -/
abbrev qzP : FVec F S256x128 .f32 := subf (qfP W h z g) (colG g z)
/-- Where group `g`'s code is not clipped. -/
abbrev inP : IVec S256x128 1 := andi (cmpf .oge (cP W h z g) (broadcast S256x128 (Scalar.ofBits .f32 0x00000000#32)))
  (cmpf .ole (cP W h z g) (broadcast S256x128 (Scalar.ofBits .f32 0x41700000#32)))
/-- Group `g`'s dequantised weights. -/
abbrev whatP : FVec F S256x128 .bf16 := shapeCast S256x128 (truncf .bf16 (mulf (qzP W h z g) (colG g h)) bitsLt_bf16_f32)
  shapeCasts_S256x128_S256x128
/-- Group `g`'s integer codes. -/
abbrev qP : IVec S256x128 8 := fptosi 8 (qfP W h z g)
/-- The factor of group `g`'s gradient in the scale's sum. -/
abbrev dP : FVec F S256x128 .f32 := shapeCast S256x128 (subf (qzP W h z g) (select (inP W h z g) (uP W h g) (colG g loh)))
  shapeCasts_S256x128_S256x128
/-- One where group `g`'s code is clipped. -/
abbrev omP : FVec F S256x128 .bf16 := shapeCast S256x128 (truncf .bf16 (select (inP W h z g)
  (broadcast S256x128 (Scalar.ofBits .f32 0x00000000#32)) (broadcast S256x128 (Scalar.ofBits .f32 0x3F800000#32)))
  bitsLt_bf16_f32) shapeCasts_S256x128_S256x128

end Groups

/-- The pieces a per-group store leaves, the last group first. -/
def piecesG {e : EltTy} (P : Fin 28 → S256x128.Idx → Elt F e) : (n : ℕ) → n ≤ 28 → List (View.Piece (Elt F) S256x3584 e)
  | 0, _ => []
  | n + 1, h => ⟨rectG ⟨n, h⟩, P ⟨n, h⟩⟩ :: piecesG P n (Nat.le_of_succ_le h)

/-- The (256, 3584) block whose group `g` is `P g`. -/
def glueG {e : EltTy} (P : Fin 28 → S256x128.Idx → Elt F e) : S256x3584.Idx → Elt F e := fun y =>
  P ⟨(y 1).val / 128, by have : (y 1).val < 3584 := (y 1).isLt; omega⟩
    (ix2 (y 0) ⟨(y 1).val % 128, Nat.mod_lt _ (by norm_num)⟩)

/-- The first `n` groups' pieces are tiles of the glued block. -/
theorem piecesG_agree {e : EltTy} (P : Fin 28 → S256x128.Idx → Elt F e) : ∀ (n : ℕ) (h : n ≤ 28),
    ∀ p ∈ piecesG P n h, ∀ x : p.1.shape.Idx, p.2 x = glueG P (p.1.emb x)
  | 0, _, p, hp => by simp [piecesG] at hp
  | n + 1, h, p, hp => by
    rcases List.mem_cons.mp hp with rfl | hp
    · intro x
      have hx : (x 1).val < 128 := (x 1).isLt
      have e1 : ((rectG ⟨n, h⟩).emb x 1).val = 128 * n + 1 * (x 1).val := rfl
      have e0 : ((rectG ⟨n, h⟩).emb x 0).val = 0 + 1 * (x 0).val := rfl
      have hg : (⟨((rectG ⟨n, h⟩).emb x 1).val / 128, by rw [e1]; omega⟩ : Fin 28) = ⟨n, h⟩ := Fin.ext (by show ((rectG ⟨n, h⟩).emb x 1).val / 128 = n; omega)
      unfold glueG
      rw [hg]
      refine congrArg (P ⟨n, h⟩) (funext fun a => ?_)
      match a with
      | ⟨0, _⟩ => exact Fin.ext (by show (x 0).val = ((rectG ⟨n, h⟩).emb x 0).val; rw [e0]; omega)
      | ⟨1, _⟩ => exact Fin.ext (by show (x 1).val = ((rectG ⟨n, h⟩).emb x 1).val % 128; rw [e1]; omega)
    · exact piecesG_agree P n _ p hp

/-- Every group's piece is among them. -/
theorem piecesG_mem {e : EltTy} (P : Fin 28 → S256x128.Idx → Elt F e) : ∀ (n : ℕ) (h : n ≤ 28) (g : Fin 28), g.val < n →
    (⟨rectG g, P g⟩ : View.Piece (Elt F) S256x3584 e) ∈ piecesG P n h
  | 0, _, g, hg => absurd hg (Nat.not_lt_zero _)
  | n + 1, h, g, hg => by
    by_cases e : g.val = n
    · obtain rfl : g = ⟨n, h⟩ := Fin.ext e
      exact List.mem_cons_self
    · exact List.mem_cons_of_mem _ (piecesG_mem P n _ g (by omega))

/-- The twenty-eight pieces leave the glued block. -/
theorem canon_piecesG {e : EltTy} (P : Fin 28 → S256x128.Idx → Elt F e) : View.canon (piecesG P 28 le_rfl) = glueG P := by
  funext y
  have h0 : (y 0).val < 256 := (y 0).isLt
  have h1 : (y 1).val < 3584 := (y 1).isLt
  refine View.canon_apply_of_pieces (glueG P) _ (piecesG_agree P 28 le_rfl) y
    ⟨_, piecesG_mem P 28 le_rfl ⟨(y 1).val / 128, by omega⟩ (by show (y 1).val / 128 < 28; omega), ?_⟩
  refine (Rect.mem_set_unit (inb := inbG ⟨(y 1).val / 128, by omega⟩)).mpr fun a => ?_
  match a with
  | ⟨0, _⟩ => exact ⟨Nat.zero_le _, by show (y 0).val < 0 + 256; omega⟩
  | ⟨1, _⟩ => exact ⟨by show 128 * ((y 1).val / 128) ≤ (y 1).val; omega, by show (y 1).val < 128 * ((y 1).val / 128) + 128; omega⟩

/-! ## The forward loop -/

section Forward
variable (what : Vec F S256x3584 .bf16) (x0 : Vec F S6144x3584 .fp8e4m3) (x1 : Vec F S1x6144 .f32) (x5 : Vec F S6144x256 .bf16)

/-- Trip `k`'s tokens' codes, scales and outputs. -/
abbrev xrow (k : Fin k0_t1_loop.trips) : Vec F S512x3584 .fp8e4m3 := View.ld x0 (Rect.unit (s := S6144x3584) (k0_off1 k) S512x3584.size (k0_off1_inb k))
abbrev xsrow (k : Fin k0_t1_loop.trips) : Vec F S1x512 .f32 := View.ld x1 (Rect.unit (s := S1x6144) (k0_off2 k) S1x512.size (k0_off2_inb k))
abbrev yrow (k : Fin k0_t1_loop.trips) : Vec F S512x256 .bf16 := View.ld x5 (Rect.unit (s := S6144x256) (k0_off3 k) S512x256.size (k0_off3_inb k))

/-- The loss block after the first `k` trips, started from `l0`. -/
def lossF (l0 : Vec F S8x128 .f32) : ℕ → Vec F S8x128 .f32
  | 0 => l0
  | k + 1 => if h : k < k0_t1_loop.trips then
      k0_pay390 what (xrow x0 ⟨k, h⟩) (xsrow x1 ⟨k, h⟩) (yrow x5 ⟨k, h⟩) (lossF l0 k)
    else lossF l0 k

/-- The forward loop makes twelve trips. -/
theorem trips1 : k0_t1_loop.trips = 12 := by decide +kernel
/-- The backward loop makes seven trips. -/
theorem trips2 : k0_t2_loop.trips = 7 := by decide +kernel

/-- The scaled errors of the block's rows against every token. -/
def eV : Vec F S256x6144 .bf16 := fun y =>
  let k : Fin k0_t1_loop.trips := ⟨(y 1).val / 512, by have : (y 1).val < 6144 := (y 1).isLt; rw [trips1]; omega⟩
  k0_pay391 what (xrow x0 k) (xsrow x1 k) (yrow x5 k) (ix2 (y 0) ⟨(y 1).val % 512, Nat.mod_lt _ (by norm_num)⟩)

end Forward

/-! ## The backward loop -/

section Backward
variable (e : Vec F S256x6144 .bf16) (x0 : Vec F S6144x3584 .fp8e4m3) (d : Vec F S256x3584 .f32) (om : Vec F S256x3584 .bf16)

/-- Trip `k`'s columns of the codes, and of the two factor blocks. -/
abbrev xcol (k : Fin k0_t2_loop.trips) : Vec F S6144x512 .fp8e4m3 := View.ld x0 (Rect.unit (s := S6144x3584) (k0_off5 k) S6144x512.size (k0_off5_inb k))
abbrev dcol (k : Fin k0_t2_loop.trips) : Vec F S256x512 .f32 := View.ld d (Rect.unit (s := S256x3584) (k0_off6 k) S256x512.size (k0_off6_inb k))
abbrev omcol (k : Fin k0_t2_loop.trips) : Vec F S256x512 .bf16 := View.ld om (Rect.unit (s := S256x3584) (k0_off6 k) S256x512.size (k0_off6_inb k))

/-- One trip's update of the scale sums' block. -/
abbrev shStep (k : Fin k0_t2_loop.trips) (sh : Vec F S256x128 .f32) : Vec F S256x128 .f32 :=
  k0_pay12 laneV (Scf.iv 0#32 1#32 k) (k0_pay3 e (xcol x0 k) (dcol d k))
    (k0_pay6 laneV 0#32 1#32 k e (xcol x0 k) (dcol d k) sh) (k0_pay8 laneV 0#32 1#32 k) (k0_pay9 e (xcol x0 k) (dcol d k))

/-- One trip's update of the clip sums' block. -/
abbrev scStep (k : Fin k0_t2_loop.trips) (sc : Vec F S256x128 .f32) : Vec F S256x128 .f32 :=
  k0_pay13 laneV (Scf.iv 0#32 1#32 k) (k0_pay4 e (xcol x0 k) (omcol om k))
    (k0_pay7 laneV 0#32 1#32 k e (xcol x0 k) (omcol om k) sc) (k0_pay8 laneV 0#32 1#32 k)

/-- The scale sums' block after the first `k` trips. -/
def shF : ℕ → Vec F S256x128 .f32
  | 0 => k0_pay392
  | k + 1 => if h : k < k0_t2_loop.trips then shStep e x0 d ⟨k, h⟩ (shF k) else shF k

/-- The clip sums' block after the first `k` trips. -/
def scF : ℕ → Vec F S256x128 .f32
  | 0 => k0_pay393
  | k + 1 => if h : k < k0_t2_loop.trips then scStep e x0 om ⟨k, h⟩ (scF k) else scF k

end Backward

/-! ## What one grid point leaves -/

section Point
variable (x0 : Vec F S6144x3584 .fp8e4m3) (x1 : Vec F S1x6144 .f32) (x2 : Vec F S256x3584 .f32) (x3 x4 : Vec F S256x28 .f32)
  (x5 : Vec F S6144x256 .bf16)

/-- The groups' columns of a block of weights. -/
abbrev WG (g : Fin 28) : FVec F S256x128 .f32 := View.ld x2 (rectG g)

/-- A (256, 28) block as the point's load of it reads. -/
abbrev ld28 (x : Vec F S256x28 .f32) : FVec F S256x28 .f32 := View.ld x (Rect.unit (s := S256x28) ![0, 0] S256x28.size inb_S256x28_S256x28_0_0)

abbrev hS : FVec F S256x28 .f32 := hP (WG x2) (ld28 x3) (ld28 x4)
abbrev lohS : FVec F S256x28 .f32 := lohP (WG x2) (ld28 x3) (ld28 x4)
abbrev zS : FVec F S256x28 .f32 := zP (WG x2) (ld28 x3) (ld28 x4)
abbrev whatS : Vec F S256x3584 .bf16 := glueG (F := F) (e := .bf16) (whatP (WG x2) (hS x2 x3 x4) (zS x2 x3 x4))
abbrev qS : Vec F S256x3584 .i8 := glueG (F := F) (e := .i8) (qP (WG x2) (hS x2 x3 x4) (zS x2 x3 x4))
abbrev dS : Vec F S256x3584 .f32 := glueG (F := F) (e := .f32) (dP (WG x2) (hS x2 x3 x4) (zS x2 x3 x4) (lohS x2 x3 x4))
abbrev omS : Vec F S256x3584 .bf16 := glueG (F := F) (e := .bf16) (omP (WG x2) (hS x2 x3 x4) (zS x2 x3 x4))
abbrev eS : Vec F S256x6144 .bf16 := eV (whatS x2 x3 x4) x0 x1 x5
abbrev lossS (l0 : Vec F S8x128 .f32) : Vec F S8x128 .f32 := lossF (whatS x2 x3 x4) x0 x1 x5 l0 12
/-- The first 28 lanes of the two sums' blocks. -/
abbrev shS : FVec F S256x28 .f32 := View.ld (shF (eS x0 x1 x2 x3 x4 x5) x0 (dS x2 x3 x4) 7) (Rect.unit (s := S256x128) ![0, 0] S256x28.size inb_S256x128_S256x28_0_0)
abbrev scS : FVec F S256x28 .f32 := View.ld (scF (eS x0 x1 x2 x3 x4 x5) x0 (omS x2 x3 x4) 7) (Rect.unit (s := S256x128) ![0, 0] S256x28.size inb_S256x128_S256x28_0_0)
/-- The gradient of the upper clipping parameter. -/
def dgS : Vec F S256x28 .f32 := k0_pay396 (k0_pay42 (wmaxC (WG x2) 28 le_rfl)) (k0_pay44 (ld28 x3)) (shS x0 x1 x2 x3 x4 x5)
/-- The gradient of the lower clipping parameter. -/
def dbS : Vec F S256x28 .f32 := k0_pay1 (k0_pay43 (wminC (WG x2) 28 le_rfl)) (k0_pay45 (ld28 x4)) (k0_pay394 (shS x0 x1 x2 x3 x4 x5)) (k0_pay395 (scS x0 x1 x2 x3 x4 x5))

end Point

end Cert.Kernel.Hand

end
-- ==== Proof.Word.KLoops.lean ====
/- What the kernel body's two loops leave: the loss block and the scaled errors after the forward loop, the two sums'
   blocks after the backward loop, as the folds of `KSpec`. -/
module

public import proofs.«01_k».proof.Proof.Word.KSpec

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.ValueIdx

variable {F : FTy → Type} [FloatOps F]

/-- The zero offsets of a rank-2 rectangle, however they are spelt. -/
theorem off00 : (![0, 0] : Fin 2 → ℕ) = fun _ => 0 := by
  funext a; match a with | ⟨0, _⟩ => rfl | ⟨1, _⟩ => rfl

section Whole
variable {sig' : RefSig} {κ : Kind} {sp : Space} {s : Shape} {e : EltTy} {Val : EltTy → Type}

/-- A store through the whole rectangle, last, leaves its payload. -/
theorem read_writes_whole (v : View sig' κ sp s e) (f : v.ty.Contents Val) {off : Fin s.rank → ℕ} (h : off = fun _ => 0)
    (inb : ∀ a, off a + s.size a ≤ s.size a) (w : s.Idx → Val e) (L : List (View.Piece Val s e)) :
    v.read Val (v.writes Val f ((⟨Rect.unit off s.size inb, w⟩ : View.Piece Val s e) :: L)) = w := by
  subst h; funext y
  have E := View.read_writes_cons_emb v f (Rect.whole s) w L y
  rw [Rect.emb_whole_apply] at E
  exact E

/-- A load through the whole rectangle reads the contents. -/
theorem readAt_whole (v : View sig' κ sp s e) (f : v.ty.Contents Val) {off : Fin s.rank → ℕ} (h : off = fun _ => 0)
    (inb : ∀ a, off a + s.size a ≤ s.size a) : v.readAt Val (Rect.unit off s.size inb).toLoadRect f = v.read Val f := by
  rw [View.readAt_eq_ld]; exact View.ld_unit_zero h inb _

end Whole

/-- The scaled errors at a token of trip `k`. -/
theorem eV_at (what : Vec F S256x3584 .bf16) (x0 : Vec F S6144x3584 .fp8e4m3) (x1 : Vec F S1x6144 .f32) (x5 : Vec F S6144x256 .bf16)
    (k : Fin k0_t1_loop.trips) (x : S256x512.Idx) (y : S256x6144.Idx) (h0 : (y 0).val = (x 0).val) (h1 : (y 1).val = 512 * k.val + (x 1).val) :
    eV what x0 x1 x5 y = k0_pay391 what (xrow x0 k) (xsrow x1 k) (yrow x5 k) x := by
  have hx2 : (x 1).val < 512 := (x 1).isLt
  have ek : (⟨(y 1).val / 512, by have : (y 1).val < 6144 := (y 1).isLt; rw [trips1]; omega⟩ : Fin k0_t1_loop.trips) = k :=
    Fin.ext (by show (y 1).val / 512 = k.val; omega)
  have ex : (ix2 (y 0) ⟨(y 1).val % 512, Nat.mod_lt _ (by norm_num)⟩ : S256x512.Idx) = x := by
    funext a
    match a with
    | ⟨0, _⟩ => exact Fin.ext h0
    | ⟨1, _⟩ => exact Fin.ext (by show (y 1).val % 512 = (x 1).val; omega)
  unfold eV
  rw [ek, ex]

section Trip1
variable (𝒱 : Variants) (c : Dev nD) (bd : Option 𝒱.V) (i : grid0.Coords) (arg1 : Memref sig .tc .vmem S6144x3584 .fp8e4m3) (harg1 : arg1.IsWhole) (arg2 : Memref sig .tc .vmem S1x6144 .f32) (harg2 : arg2.IsWhole) (arg3 : Memref sig .tc .vmem S256x3584 .f32) (harg3 : arg3.IsWhole) (arg4 : Memref sig .tc .vmem S256x28 .f32) (harg4 : arg4.IsWhole) (arg5 : Memref sig .tc .vmem S256x28 .f32) (harg5 : arg5.IsWhole) (arg6 : Memref sig .tc .vmem S6144x256 .bf16) (harg6 : arg6.IsWhole) (arg7 : Memref sig .tc .vmem S256x28 .f32) (harg7 : arg7.IsWhole) (arg8 : Memref sig .tc .vmem S256x28 .f32) (harg8 : arg8.IsWhole) (arg9 : Memref sig .tc .vmem S8x128 .f32) (harg9 : arg9.IsWhole) (arg10 : Memref sig .tc .vmem S256x3584 .i8) (harg10 : arg10.IsWhole) (arg11 : Memref sig .tc .vmem S256x28 .f32) (harg11 : arg11.IsWhole) (arg12 : Memref sig .tc .vmem S256x28 .f32) (harg12 : arg12.IsWhole) (arg13 : Memref sig .tc .vmem S256x3584 .bf16) (harg13 : arg13.IsWhole) (arg14 : Memref sig .tc .vmem S256x6144 .bf16) (harg14 : arg14.IsWhole) (arg15 : Memref sig .tc .vmem S256x3584 .f32) (harg15 : arg15.IsWhole) (arg16 : Memref sig .tc .vmem S256x3584 .bf16) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole)
  (v0 : IVec S256x128 32) (v1589 : FVec F S256x128 .f32) (v1591 : FVec F S256x128 .f32) (v1597 : FVec F S256x128 .f32) (v1598 : FVec F S256x128 .f32) (v1603 : IVec S256x128 1) (v1605 : FVec F S256x128 .bf16)
  (X_arg1 : BufTy.Contents (Elt F) arg1.view.ty) (X_arg2 : BufTy.Contents (Elt F) arg2.view.ty) (X_arg6 : BufTy.Contents (Elt F) arg6.view.ty) (X_arg13 : BufTy.Contents (Elt F) arg13.view.ty) (G_arg9 : BufTy.Contents (Elt F) arg9.view.ty) (G_arg14 : BufTy.Contents (Elt F) arg14.view.ty)

/-- One forward trip's stores: the loss block with the trip's squares added, and the trip's columns of scaled errors. -/
theorem trip1_eq (k : Fin k0_t1_loop.trips) (f9 : BufTy.Contents (Elt F) arg9.view.ty) (f14 : BufTy.Contents (Elt F) arg14.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v1589 v1591 v1597 v1598 v1603 v1605 X_arg1 X_arg2 X_arg6 X_arg13 k f9 f14
      = ([⟨Rect.unit (s := S8x128) ![0, 0] S8x128.size inb_S8x128_S8x128_0_0,
            k0_pay390 (arg13.view.readAt (Elt F) (Rect.unit (s := S256x3584) ![0, 0] S256x3584.size inb_S256x3584_S256x3584_0_0).toLoadRect X_arg13)
              (xrow (arg1.view.read (Elt F) X_arg1) k) (xsrow (arg2.view.read (Elt F) X_arg2) k) (yrow (arg6.view.read (Elt F) X_arg6) k)
              (arg9.view.readAt (Elt F) (Rect.unit (s := S8x128) ![0, 0] S8x128.size inb_S8x128_S8x128_0_0).toLoadRect f9)⟩],
         [⟨Rect.unit (s := S256x6144) (k0_off4 k) S256x512.size (k0_off4_inb k),
            k0_pay391 (arg13.view.readAt (Elt F) (Rect.unit (s := S256x3584) ![0, 0] S256x3584.size inb_S256x3584_S256x3584_0_0).toLoadRect X_arg13)
              (xrow (arg1.view.read (Elt F) X_arg1) k) (xsrow (arg2.view.read (Elt F) X_arg2) k) (yrow (arg6.view.read (Elt F) X_arg6) k)⟩]) := by
  unfold tripL_k0_t1 trip_k0_t1; rfl

/-- After `k` forward trips the loss block is `lossF`, and the scaled errors of the trips' tokens are `eV`. -/
theorem loop1_eq : ∀ (k : ℕ), k ≤ k0_t1_loop.trips →
    arg9.view.read (Elt F) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v1589 v1591 v1597 v1598 v1603 v1605 X_arg1 X_arg2 X_arg6 X_arg13 G_arg9 G_arg14 k).1)
      = lossF (arg13.view.read (Elt F) X_arg13) (arg1.view.read (Elt F) X_arg1) (arg2.view.read (Elt F) X_arg2) (arg6.view.read (Elt F) X_arg6) (arg9.view.read (Elt F) G_arg9) k
    ∧ ∀ y : S256x6144.Idx, (y 1).val < 512 * k →
      arg14.view.read (Elt F) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v1589 v1591 v1597 v1598 v1603 v1605 X_arg1 X_arg2 X_arg6 X_arg13 G_arg9 G_arg14 k).2) y
        = eV (arg13.view.read (Elt F) X_arg13) (arg1.view.read (Elt F) X_arg1) (arg2.view.read (Elt F) X_arg2) (arg6.view.read (Elt F) X_arg6) y
  | 0, _ => ⟨rfl, fun y hy => absurd hy (by omega)⟩
  | k + 1, hk => by
    obtain ⟨i1, i2⟩ := loop1_eq k (by omega)
    have es := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v1589 v1591 v1597 v1598 v1603 v1605 X_arg1 X_arg2 X_arg6 X_arg13 G_arg9 G_arg14 ⟨k, hk⟩
    rw [trip1_eq] at es
    rw [show k + 1 = (⟨k, hk⟩ : Fin k0_t1_loop.trips).val + 1 from rfl, es]
    clear es; dsimp only
    refine ⟨?_, fun y hy => ?_⟩
    · rw [List.singleton_append, read_writes_whole _ _ off00, readAt_whole _ _ off00, readAt_whole _ _ off00, i1]
      show _ = lossF _ _ _ _ _ (k + 1)
      rw [lossF, dif_pos (show k < k0_t1_loop.trips from hk)]
    · rw [List.singleton_append]
      have hy' : (y 1).val < 512 * (k + 1) := hy
      have h0 : (y 0).val < 256 := (y 0).isLt
      have o0 : k0_off4 ⟨k, hk⟩ 0 = 0 := congrFun (k0_off4_eq ⟨k, hk⟩) 0
      have o1 : k0_off4 ⟨k, hk⟩ 1 = 512 * k := congrFun (k0_off4_eq ⟨k, hk⟩) 1
      by_cases hlt : (y 1).val < 512 * k
      · rw [← i2 y hlt, View.writes_cons, View.read_slice_write_of_not_mem]
        rw [Rect.map_emb_univ, Rect.mem_set_unit]
        intro hc
        have : k0_off4 ⟨k, hk⟩ 1 ≤ (y 1).val := (hc 1).1
        omega
      · obtain ⟨x, hx⟩ : ∃ x : S256x512.Idx, (Rect.unit (s := S256x6144) (k0_off4 ⟨k, hk⟩) S256x512.size (k0_off4_inb ⟨k, hk⟩)).emb x = y := by
          refine ⟨ix2 (y 0) ⟨(y 1).val - 512 * k, by omega⟩, funext fun a => Fin.ext ?_⟩
          match a with
          | ⟨0, _⟩ => show k0_off4 ⟨k, hk⟩ 0 + 1 * (y 0).val = (y 0).val; omega
          | ⟨1, _⟩ => show k0_off4 ⟨k, hk⟩ 1 + 1 * ((y 1).val - 512 * k) = (y 1).val; omega
        have hx1 : (k0_off4 ⟨k, hk⟩) 1 + 1 * (x 1).val = (y 1).val := by rw [← hx]; rfl
        have hx0 : (k0_off4 ⟨k, hk⟩) 0 + 1 * (x 0).val = (y 0).val := by rw [← hx]; rfl
        refine (congrArg (View.read (Elt F) arg14.view _) hx.symm).trans ?_
        refine (View.read_writes_cons_emb arg14.view G_arg14 (Rect.unit (s := S256x6144) (k0_off4 ⟨k, hk⟩) S256x512.size (k0_off4_inb ⟨k, hk⟩)) _ _ x).trans ?_
        rw [readAt_whole _ _ off00]
        exact (eV_at _ _ _ _ ⟨k, hk⟩ x y (by omega) (by show (y 1).val = 512 * k + (x 1).val; omega)).symm

end Trip1

section Trip2
variable (𝒱 : Variants) (c : Dev nD) (bd : Option 𝒱.V) (i : grid0.Coords) (arg1 : Memref sig .tc .vmem S6144x3584 .fp8e4m3) (harg1 : arg1.IsWhole) (arg2 : Memref sig .tc .vmem S1x6144 .f32) (harg2 : arg2.IsWhole) (arg3 : Memref sig .tc .vmem S256x3584 .f32) (harg3 : arg3.IsWhole) (arg4 : Memref sig .tc .vmem S256x28 .f32) (harg4 : arg4.IsWhole) (arg5 : Memref sig .tc .vmem S256x28 .f32) (harg5 : arg5.IsWhole) (arg6 : Memref sig .tc .vmem S6144x256 .bf16) (harg6 : arg6.IsWhole) (arg7 : Memref sig .tc .vmem S256x28 .f32) (harg7 : arg7.IsWhole) (arg8 : Memref sig .tc .vmem S256x28 .f32) (harg8 : arg8.IsWhole) (arg9 : Memref sig .tc .vmem S8x128 .f32) (harg9 : arg9.IsWhole) (arg10 : Memref sig .tc .vmem S256x3584 .i8) (harg10 : arg10.IsWhole) (arg11 : Memref sig .tc .vmem S256x28 .f32) (harg11 : arg11.IsWhole) (arg12 : Memref sig .tc .vmem S256x28 .f32) (harg12 : arg12.IsWhole) (arg13 : Memref sig .tc .vmem S256x3584 .bf16) (harg13 : arg13.IsWhole) (arg14 : Memref sig .tc .vmem S256x6144 .bf16) (harg14 : arg14.IsWhole) (arg15 : Memref sig .tc .vmem S256x3584 .f32) (harg15 : arg15.IsWhole) (arg16 : Memref sig .tc .vmem S256x3584 .bf16) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole)
  (v0 : IVec S256x128 32) (v1589 : FVec F S256x128 .f32) (v1591 : FVec F S256x128 .f32) (v1597 : FVec F S256x128 .f32) (v1598 : FVec F S256x128 .f32) (v1603 : IVec S256x128 1) (v1605 : FVec F S256x128 .bf16)
  (X_arg1 : BufTy.Contents (Elt F) arg1.view.ty) (X_arg14 : BufTy.Contents (Elt F) arg14.view.ty) (X_arg15 : BufTy.Contents (Elt F) arg15.view.ty) (X_arg16 : BufTy.Contents (Elt F) arg16.view.ty) (G_arg20 : BufTy.Contents (Elt F) arg20.view.ty) (G_arg21 : BufTy.Contents (Elt F) arg21.view.ty)

/-- One backward trip's stores: the two sums' blocks, each with the trip's four groups' lanes set. -/
theorem trip2_eq (k : Fin k0_t2_loop.trips) (f20 : BufTy.Contents (Elt F) arg20.view.ty) (f21 : BufTy.Contents (Elt F) arg21.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 laneV v1589 v1591 v1597 v1598 v1603 v1605 X_arg1 X_arg14 X_arg15 X_arg16 k f20 f21
      = ([⟨Rect.unit (s := S256x128) ![0, 0] S256x128.size inb_S256x128_S256x128_0_0,
            shStep (arg14.view.readAt (Elt F) (Rect.unit (s := S256x6144) ![0, 0] S256x6144.size inb_S256x6144_S256x6144_0_0).toLoadRect X_arg14)
              (arg1.view.read (Elt F) X_arg1) (arg15.view.read (Elt F) X_arg15) k
              (arg20.view.readAt (Elt F) (Rect.unit (s := S256x128) ![0, 0] S256x128.size inb_S256x128_S256x128_0_0).toLoadRect f20)⟩],
         [⟨Rect.unit (s := S256x128) ![0, 0] S256x128.size inb_S256x128_S256x128_0_0,
            scStep (arg14.view.readAt (Elt F) (Rect.unit (s := S256x6144) ![0, 0] S256x6144.size inb_S256x6144_S256x6144_0_0).toLoadRect X_arg14)
              (arg1.view.read (Elt F) X_arg1) (arg16.view.read (Elt F) X_arg16) k
              (arg21.view.readAt (Elt F) (Rect.unit (s := S256x128) ![0, 0] S256x128.size inb_S256x128_S256x128_0_0).toLoadRect f21)⟩]) := by
  unfold tripL_k0_t2 trip_k0_t2; rfl

/-- After `k` backward trips the two sums' blocks are `shF` and `scF`, started from zeros. -/
theorem loop2_eq (h20 : arg20.view.read (Elt F) G_arg20 = k0_pay392) (h21 : arg21.view.read (Elt F) G_arg21 = k0_pay393) :
    ∀ (k : ℕ), k ≤ k0_t2_loop.trips →
    arg20.view.read (Elt F) (arg20.view.writes (Elt F) G_arg20 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 laneV v1589 v1591 v1597 v1598 v1603 v1605 X_arg1 X_arg14 X_arg15 X_arg16 G_arg20 G_arg21 k).1)
      = shF (arg14.view.read (Elt F) X_arg14) (arg1.view.read (Elt F) X_arg1) (arg15.view.read (Elt F) X_arg15) k
    ∧ arg21.view.read (Elt F) (arg21.view.writes (Elt F) G_arg21 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 laneV v1589 v1591 v1597 v1598 v1603 v1605 X_arg1 X_arg14 X_arg15 X_arg16 G_arg20 G_arg21 k).2)
      = scF (arg14.view.read (Elt F) X_arg14) (arg1.view.read (Elt F) X_arg1) (arg16.view.read (Elt F) X_arg16) k
  | 0, _ => ⟨h20, h21⟩
  | k + 1, hk => by
    obtain ⟨i1, i2⟩ := loop2_eq h20 h21 k (by omega)
    have es := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 laneV v1589 v1591 v1597 v1598 v1603 v1605 X_arg1 X_arg14 X_arg15 X_arg16 G_arg20 G_arg21 ⟨k, hk⟩
    rw [trip2_eq] at es
    rw [show k + 1 = (⟨k, hk⟩ : Fin k0_t2_loop.trips).val + 1 from rfl, es]
    clear es; dsimp only
    refine ⟨?_, ?_⟩
    · rw [List.singleton_append, read_writes_whole _ _ off00, readAt_whole _ _ off00, readAt_whole _ _ off00, i1]
      show _ = shF _ _ _ (k + 1)
      rw [shF, dif_pos (show k < k0_t2_loop.trips from hk)]
    · rw [List.singleton_append, read_writes_whole _ _ off00, readAt_whole _ _ off00, readAt_whole _ _ off00, i2]
      show _ = scF _ _ _ (k + 1)
      rw [scF, dif_pos (show k < k0_t2_loop.trips from hk)]

end Trip2

/-- Equal operands leave equal loss blocks. -/
theorem lossF_congr {w w' : Vec F S256x3584 .bf16} (x0 x1 x5) {l l' : Vec F S8x128 .f32} {n n' : ℕ} (hw : w = w') (hl : l = l') (hn : n = n') :
    lossF w x0 x1 x5 l n = lossF w' x0 x1 x5 l' n' := by subst hw hl hn; rfl

/-- Equal operands leave equal scale sums. -/
theorem shF_congr {e e' : Vec F S256x6144 .bf16} (x0) {d d' : Vec F S256x3584 .f32} {n n' : ℕ} (he : e = e') (hd : d = d') (hn : n = n') :
    shF e x0 d n = shF e' x0 d' n' := by subst he hd hn; rfl

/-- Equal operands leave equal clip sums. -/
theorem scF_congr {e e' : Vec F S256x6144 .bf16} (x0) {d d' : Vec F S256x3584 .bf16} {n n' : ℕ} (he : e = e') (hd : d = d') (hn : n = n') :
    scF e x0 d n = scF e' x0 d' n' := by subst he hd hn; rfl

end Cert.Kernel.Hand

end
-- ==== Proof.Word.KRunA.lean ====
/- The kernel body at a grid point that starts the loss block, run once: what it leaves in the six result windows, as the named
   functions of the blocks it reads. -/
module

public import proofs.«01_k».proof.Proof.Word.KRuns
public import proofs.«01_k».proof.Proof.Word.KSpec
public import proofs.«01_k».proof.Proof.Word.KLoops

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
theorem kernelRun0_A (c : Dev nD) (i : grid0.Coords) (arg1 : Memref sig .tc .vmem S6144x3584 .fp8e4m3) (harg1 : arg1.IsWhole) (arg2 : Memref sig .tc .vmem S1x6144 .f32) (harg2 : arg2.IsWhole) (arg3 : Memref sig .tc .vmem S256x3584 .f32) (harg3 : arg3.IsWhole) (arg4 : Memref sig .tc .vmem S256x28 .f32) (harg4 : arg4.IsWhole) (arg5 : Memref sig .tc .vmem S256x28 .f32) (harg5 : arg5.IsWhole) (arg6 : Memref sig .tc .vmem S6144x256 .bf16) (harg6 : arg6.IsWhole) (arg7 : Memref sig .tc .vmem S256x28 .f32) (harg7 : arg7.IsWhole) (arg8 : Memref sig .tc .vmem S256x28 .f32) (harg8 : arg8.IsWhole) (arg9 : Memref sig .tc .vmem S8x128 .f32) (harg9 : arg9.IsWhole) (arg10 : Memref sig .tc .vmem S256x3584 .i8) (harg10 : arg10.IsWhole) (arg11 : Memref sig .tc .vmem S256x28 .f32) (harg11 : arg11.IsWhole) (arg12 : Memref sig .tc .vmem S256x28 .f32) (harg12 : arg12.IsWhole) (arg13 : Memref sig .tc .vmem S256x3584 .bf16) (harg13 : arg13.IsWhole) (arg14 : Memref sig .tc .vmem S256x6144 .bf16) (harg14 : arg14.IsWhole) (arg15 : Memref sig .tc .vmem S256x3584 .f32) (harg15 : arg15.IsWhole) (arg16 : Memref sig .tc .vmem S256x3584 .bf16) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (hc0 : cond0_0 i)
    (x0 : Vec F S6144x3584 .fp8e4m3) (x1 : Vec F S1x6144 .f32) (x2 : Vec F S256x3584 .f32) (x3 : Vec F S256x28 .f32) (x4 : Vec F S256x28 .f32) (x5 : Vec F S6144x256 .bf16) (x8 : Vec F S8x128 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dgS x0 x1 x2 x3 x4 x5) ∗ owns (c : Thread nD τ) arg8 fullShare (dbS x0 x1 x2 x3 x4 x5) ∗ owns (c : Thread nD τ) arg9 fullShare (lossS x0 x1 x2 x3 x4 x5 k0_pay14) ∗ owns (c : Thread nD τ) arg10 fullShare (qS x2 x3 x4) ∗ owns (c : Thread nD τ) arg11 fullShare (hS x2 x3 x4) ∗ owns (c : Thread nD τ) arg12 fullShare (zS x2 x3 x4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_lwc_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_lwc_bwd_eq_skeleton]; unfold cc0_lwc_bwd_skel
    simp only [k0_part43_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    subst hf0 hf1 hf2 hf3 hf4 hf5
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro; refine (read_writes_whole _ _ off00 _ _ _).trans ?_
      refine (congrArg (k0_pay396 (F := F) _ _) ?_ : k0_pay396 (F := F) _ _ _ = k0_pay396 (F := F) _ _ _)
      refine congrArg (fun X => View.ld X _) ?_
      show View.read (Elt F) arg20.view (arg20.view.writes (Elt F) _ (_ ++ _)) = _
      rw [View.writes_append]; refine (loop2_eq _ _ _ _ _ _ _ _ _ _ _ _ _ _ _ _ _ _ _ _ _ _ _ _ _ _ _ _ _ _ _ _ _ _ _ _ _ _ _ _ _ _ _ _ _ _ _ _ _ _ _ _ _ _ _ _ _ _ (read_writes_whole _ _ off00 _ _ _) (read_writes_whole _ _ off00 _ _ _) _ le_rfl).1.trans (shF_congr _ (by funext y; refine ((loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).2 y (by have : (y 1).val < 6144 := (y 1).isLt; have e := trips1; omega)).trans ?_; exact congrArg (fun w => eV w _ _ _ y) (by rw [View.read_writes_junk_eq_canon]; refine (congrArg View.canon (?_ : _ = piecesG _ 28 le_rfl)).trans (canon_piecesG _); rfl)) (by rw [View.read_writes_junk_eq_canon]; refine (congrArg View.canon (?_ : _ = piecesG _ 28 le_rfl)).trans (canon_piecesG _); rfl) trips2)
    isplitl [H7]
    · iexists _; isplitr; swap; · iexact H7
      ipureintro; refine (read_writes_whole _ _ off00 _ _ _).trans ?_
      refine congrArg₂ (fun a b => k0_pay1 (F := F) _ _ (k0_pay394 (F := F) a) (k0_pay395 (F := F) b)) ?_ ?_
      · refine congrArg (fun X => View.ld X _) ?_
        show View.read (Elt F) arg20.view (arg20.view.writes (Elt F) _ (_ ++ _)) = _
        rw [View.writes_append]; refine (loop2_eq _ _ _ _ _ _ _ _ _ _ _ _ _ _ _ _ _ _ _ _ _ _ _ _ _ _ _ _ _ _ _ _ _ _ _ _ _ _ _ _ _ _ _ _ _ _ _ _ _ _ _ _ _ _ _ _ _ _ (read_writes_whole _ _ off00 _ _ _) (read_writes_whole _ _ off00 _ _ _) _ le_rfl).1.trans (shF_congr _ (by funext y; refine ((loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).2 y (by have : (y 1).val < 6144 := (y 1).isLt; have e := trips1; omega)).trans ?_; exact congrArg (fun w => eV w _ _ _ y) (by rw [View.read_writes_junk_eq_canon]; refine (congrArg View.canon (?_ : _ = piecesG _ 28 le_rfl)).trans (canon_piecesG _); rfl)) (by rw [View.read_writes_junk_eq_canon]; refine (congrArg View.canon (?_ : _ = piecesG _ 28 le_rfl)).trans (canon_piecesG _); rfl) trips2)
      · refine congrArg (fun X => View.ld X _) ?_
        show View.read (Elt F) arg21.view (arg21.view.writes (Elt F) _ (_ ++ _)) = _
        rw [View.writes_append]; refine (loop2_eq _ _ _ _ _ _ _ _ _ _ _ _ _ _ _ _ _ _ _ _ _ _ _ _ _ _ _ _ _ _ _ _ _ _ _ _ _ _ _ _ _ _ _ _ _ _ _ _ _ _ _ _ _ _ _ _ _ _ (read_writes_whole _ _ off00 _ _ _) (read_writes_whole _ _ off00 _ _ _) _ le_rfl).2.trans (scF_congr _ (by funext y; refine ((loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).2 y (by have : (y 1).val < 6144 := (y 1).isLt; have e := trips1; omega)).trans ?_; exact congrArg (fun w => eV w _ _ _ y) (by rw [View.read_writes_junk_eq_canon]; refine (congrArg View.canon (?_ : _ = piecesG _ 28 le_rfl)).trans (canon_piecesG _); rfl)) (by rw [View.read_writes_junk_eq_canon]; refine (congrArg View.canon (?_ : _ = piecesG _ 28 le_rfl)).trans (canon_piecesG _); rfl) trips2)
    isplitl [H8]
    · iexists _; isplitr; swap; · iexact H8
      ipureintro; rw [View.writes_append]; refine (loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).1.trans (lossF_congr _ _ _ (by rw [View.read_writes_junk_eq_canon]; refine (congrArg View.canon (?_ : _ = piecesG _ 28 le_rfl)).trans (canon_piecesG _); rfl) (read_writes_whole _ _ off00 _ _ _) trips1)
    isplitl [H9]
    · iexists _; isplitr; swap; · iexact H9
      ipureintro; rw [View.read_writes_junk_eq_canon]; refine (congrArg View.canon (?_ : _ = piecesG _ 28 le_rfl)).trans (canon_piecesG _); rfl
    isplitl [H10]
    · iexists _; isplitr; swap; · iexact H10
      ipureintro; rw [View.read_writes_junk_eq_canon]; refine (View.canon_cons_unit_zero off00 _ _ _).trans ?_; rfl
    isplitl [H11]
    · iexists _; isplitr; swap; · iexact H11
      ipureintro; rw [View.read_writes_junk_eq_canon]; refine (View.canon_cons_unit_zero off00 _ _ _).trans ?_; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Kernel.Hand

end
-- ==== Proof.Word.KRunB.lean ====
/- The kernel body at a grid point that adds to the loss block, run once: what it leaves in the six result windows, as the named
   functions of the blocks it reads. -/
module

public import proofs.«01_k».proof.Proof.Word.KRuns
public import proofs.«01_k».proof.Proof.Word.KSpec
public import proofs.«01_k».proof.Proof.Word.KLoops

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
theorem kernelRun0_B (c : Dev nD) (i : grid0.Coords) (arg1 : Memref sig .tc .vmem S6144x3584 .fp8e4m3) (harg1 : arg1.IsWhole) (arg2 : Memref sig .tc .vmem S1x6144 .f32) (harg2 : arg2.IsWhole) (arg3 : Memref sig .tc .vmem S256x3584 .f32) (harg3 : arg3.IsWhole) (arg4 : Memref sig .tc .vmem S256x28 .f32) (harg4 : arg4.IsWhole) (arg5 : Memref sig .tc .vmem S256x28 .f32) (harg5 : arg5.IsWhole) (arg6 : Memref sig .tc .vmem S6144x256 .bf16) (harg6 : arg6.IsWhole) (arg7 : Memref sig .tc .vmem S256x28 .f32) (harg7 : arg7.IsWhole) (arg8 : Memref sig .tc .vmem S256x28 .f32) (harg8 : arg8.IsWhole) (arg9 : Memref sig .tc .vmem S8x128 .f32) (harg9 : arg9.IsWhole) (arg10 : Memref sig .tc .vmem S256x3584 .i8) (harg10 : arg10.IsWhole) (arg11 : Memref sig .tc .vmem S256x28 .f32) (harg11 : arg11.IsWhole) (arg12 : Memref sig .tc .vmem S256x28 .f32) (harg12 : arg12.IsWhole) (arg13 : Memref sig .tc .vmem S256x3584 .bf16) (harg13 : arg13.IsWhole) (arg14 : Memref sig .tc .vmem S256x6144 .bf16) (harg14 : arg14.IsWhole) (arg15 : Memref sig .tc .vmem S256x3584 .f32) (harg15 : arg15.IsWhole) (arg16 : Memref sig .tc .vmem S256x3584 .bf16) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (hc0 : ¬cond0_0 i)
    (x0 : Vec F S6144x3584 .fp8e4m3) (x1 : Vec F S1x6144 .f32) (x2 : Vec F S256x3584 .f32) (x3 : Vec F S256x28 .f32) (x4 : Vec F S256x28 .f32) (x5 : Vec F S6144x256 .bf16) (x8 : Vec F S8x128 .f32) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dgS x0 x1 x2 x3 x4 x5) ∗ owns (c : Thread nD τ) arg8 fullShare (dbS x0 x1 x2 x3 x4 x5) ∗ owns (c : Thread nD τ) arg9 fullShare (lossS x0 x1 x2 x3 x4 x5 x8) ∗ owns (c : Thread nD τ) arg10 fullShare (qS x2 x3 x4) ∗ owns (c : Thread nD τ) arg11 fullShare (hS x2 x3 x4) ∗ owns (c : Thread nD τ) arg12 fullShare (zS x2 x3 x4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_lwc_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_lwc_bwd_eq_skeleton]; unfold cc0_lwc_bwd_skel
    simp only [k0_part43_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    subst hf0 hf1 hf2 hf3 hf4 hf5 hf8
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro; refine (read_writes_whole _ _ off00 _ _ _).trans ?_
      refine (congrArg (k0_pay396 (F := F) _ _) ?_ : k0_pay396 (F := F) _ _ _ = k0_pay396 (F := F) _ _ _)
      refine congrArg (fun X => View.ld X _) ?_
      show View.read (Elt F) arg20.view (arg20.view.writes (Elt F) _ (_ ++ _)) = _
      rw [View.writes_append]; refine (loop2_eq _ _ _ _ _ _ _ _ _ _ _ _ _ _ _ _ _ _ _ _ _ _ _ _ _ _ _ _ _ _ _ _ _ _ _ _ _ _ _ _ _ _ _ _ _ _ _ _ _ _ _ _ _ _ _ _ _ _ (read_writes_whole _ _ off00 _ _ _) (read_writes_whole _ _ off00 _ _ _) _ le_rfl).1.trans (shF_congr _ (by funext y; refine ((loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).2 y (by have : (y 1).val < 6144 := (y 1).isLt; have e := trips1; omega)).trans ?_; exact congrArg (fun w => eV w _ _ _ y) (by rw [View.read_writes_junk_eq_canon]; refine (congrArg View.canon (?_ : _ = piecesG _ 28 le_rfl)).trans (canon_piecesG _); rfl)) (by rw [View.read_writes_junk_eq_canon]; refine (congrArg View.canon (?_ : _ = piecesG _ 28 le_rfl)).trans (canon_piecesG _); rfl) trips2)
    isplitl [H7]
    · iexists _; isplitr; swap; · iexact H7
      ipureintro; refine (read_writes_whole _ _ off00 _ _ _).trans ?_
      refine congrArg₂ (fun a b => k0_pay1 (F := F) _ _ (k0_pay394 (F := F) a) (k0_pay395 (F := F) b)) ?_ ?_
      · refine congrArg (fun X => View.ld X _) ?_
        show View.read (Elt F) arg20.view (arg20.view.writes (Elt F) _ (_ ++ _)) = _
        rw [View.writes_append]; refine (loop2_eq _ _ _ _ _ _ _ _ _ _ _ _ _ _ _ _ _ _ _ _ _ _ _ _ _ _ _ _ _ _ _ _ _ _ _ _ _ _ _ _ _ _ _ _ _ _ _ _ _ _ _ _ _ _ _ _ _ _ (read_writes_whole _ _ off00 _ _ _) (read_writes_whole _ _ off00 _ _ _) _ le_rfl).1.trans (shF_congr _ (by funext y; refine ((loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).2 y (by have : (y 1).val < 6144 := (y 1).isLt; have e := trips1; omega)).trans ?_; exact congrArg (fun w => eV w _ _ _ y) (by rw [View.read_writes_junk_eq_canon]; refine (congrArg View.canon (?_ : _ = piecesG _ 28 le_rfl)).trans (canon_piecesG _); rfl)) (by rw [View.read_writes_junk_eq_canon]; refine (congrArg View.canon (?_ : _ = piecesG _ 28 le_rfl)).trans (canon_piecesG _); rfl) trips2)
      · refine congrArg (fun X => View.ld X _) ?_
        show View.read (Elt F) arg21.view (arg21.view.writes (Elt F) _ (_ ++ _)) = _
        rw [View.writes_append]; refine (loop2_eq _ _ _ _ _ _ _ _ _ _ _ _ _ _ _ _ _ _ _ _ _ _ _ _ _ _ _ _ _ _ _ _ _ _ _ _ _ _ _ _ _ _ _ _ _ _ _ _ _ _ _ _ _ _ _ _ _ _ (read_writes_whole _ _ off00 _ _ _) (read_writes_whole _ _ off00 _ _ _) _ le_rfl).2.trans (scF_congr _ (by funext y; refine ((loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).2 y (by have : (y 1).val < 6144 := (y 1).isLt; have e := trips1; omega)).trans ?_; exact congrArg (fun w => eV w _ _ _ y) (by rw [View.read_writes_junk_eq_canon]; refine (congrArg View.canon (?_ : _ = piecesG _ 28 le_rfl)).trans (canon_piecesG _); rfl)) (by rw [View.read_writes_junk_eq_canon]; refine (congrArg View.canon (?_ : _ = piecesG _ 28 le_rfl)).trans (canon_piecesG _); rfl) trips2)
    isplitl [H8]
    · iexists _; isplitr; swap; · iexact H8
      ipureintro; refine (loop1_eq _ _ _ _ _ _ _ _ _ _ _ _ _ _ _ _ _ _ _ _ _ _ _ _ _ _ _ _ _ _ _ _ _ _ _ _ _ _ _ _ _ _ _ _ _ _ _ _ _ _ _ _ _ _ _ _ _ _ _ _ le_rfl).1.trans (lossF_congr _ _ _ (by rw [View.read_writes_junk_eq_canon]; refine (congrArg View.canon (?_ : _ = piecesG _ 28 le_rfl)).trans (canon_piecesG _); rfl) rfl trips1)
    isplitl [H9]
    · iexists _; isplitr; swap; · iexact H9
      ipureintro; rw [View.read_writes_junk_eq_canon]; refine (congrArg View.canon (?_ : _ = piecesG _ 28 le_rfl)).trans (canon_piecesG _); rfl
    isplitl [H10]
    · iexists _; isplitr; swap; · iexact H10
      ipureintro; rw [View.read_writes_junk_eq_canon]; refine (View.canon_cons_unit_zero off00 _ _ _).trans ?_; rfl
    isplitl [H11]
    · iexists _; isplitr; swap; · iexact H11
      ipureintro; rw [View.read_writes_junk_eq_canon]; refine (View.canon_cons_unit_zero off00 _ _ _).trans ?_; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Kernel.Hand

end
-- ==== Proof.Word.KFrame.lean ====
/- The kernel's whole run: the proof data that name what every grid point leaves in each window, the body obligation
   from the two runs of the body, and the run of the program. -/
module

public import proofs.«01_k».proof.Proof.Word.KRunA
public import proofs.«01_k».proof.Proof.Word.KRunB
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The loss block after grid point `n`: the first point starts it from zeros, every later one adds to it. -/
def lossAt (c : Dev nD) : ℕ → Vec F S8x128 .f32
  | 0 => let t : Fin cfg0.N := ⟨0, by decide⟩
    lossS (iblk m c 0 t) (iblk m c 1 t) (iblk m c 2 t) (iblk m c 3 t) (iblk m c 4 t) (iblk m c 5 t) k0_pay14
  | n + 1 => if h : n + 1 < cfg0.N then
      let t : Fin cfg0.N := ⟨n + 1, h⟩
      lossS (iblk m c 0 t) (iblk m c 1 t) (iblk m c 2 t) (iblk m c 3 t) (iblk m c 4 t) (iblk m c 5 t) (lossAt c n)
    else lossAt c n

/-- At the point that starts it. -/
theorem lossAt_start (c : Dev nD) (t : Fin cfg0.N) (h0 : t.val % 74 = 0) : lossAt m c t.val = lossS (iblk m c 0 t) (iblk m c 1 t) (iblk m c 2 t) (iblk m c 3 t) (iblk m c 4 t) (iblk m c 5 t) k0_pay14 := by
  have ht : t.val < 74 := Nat.lt_of_lt_of_eq t.isLt N_0
  obtain ⟨n, hn⟩ := t
  obtain rfl : n = 0 := by change n % 74 = 0 at h0; change n < 74 at ht; omega
  rfl

/-- At a later point. -/
theorem lossAt_next (c : Dev nD) (t : Fin cfg0.N) (h0 : ¬ t.val % 74 = 0) :
    lossAt m c t.val = lossS (iblk m c 0 t) (iblk m c 1 t) (iblk m c 2 t) (iblk m c 3 t) (iblk m c 4 t) (iblk m c 5 t) (lossAt m c (t.val - 1)) := by
  obtain ⟨n, hn⟩ := t
  cases n with
  | zero => exact absurd rfl h0
  | succ n =>
    show lossAt m c (n + 1) = _
    rw [lossAt, dif_pos hn]
    rfl

/-- The pipeline's proof data: the arrays as the region finds them, and after each point every window's buffer at what
    the point leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dgS (iblk m c 0 t) (iblk m c 1 t) (iblk m c 2 t) (iblk m c 3 t) (iblk m c 4 t) (iblk m c 5 t)
    | ⟨7, _⟩ => dbS (iblk m c 0 t) (iblk m c 1 t) (iblk m c 2 t) (iblk m c 3 t) (iblk m c 4 t) (iblk m c 5 t)
    | ⟨8, _⟩ => lossAt m c t.val
    | ⟨9, _⟩ => qS (iblk m c 2 t) (iblk m c 3 t) (iblk m c 4 t)
    | ⟨10, _⟩ => hS (iblk m c 2 t) (iblk m c 3 t) (iblk m c 4 t)
    | ⟨11, _⟩ => zS (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dgS (iblk m c 0 t) (iblk m c 1 t) (iblk m c 2 t) (iblk m c 3 t) (iblk m c 4 t) (iblk m c 5 t) := by dsimp only [dats]
theorem after0_7 (c : Dev nD) (t : Fin cfg0.N) : (dats m 0 c).after 7 t = dbS (iblk m c 0 t) (iblk m c 1 t) (iblk m c 2 t) (iblk m c 3 t) (iblk m c 4 t) (iblk m c 5 t) := by dsimp only [dats]
theorem after0_8 (c : Dev nD) (t : Fin cfg0.N) : (dats m 0 c).after 8 t = lossAt m c t.val := by dsimp only [dats]
theorem after0_9 (c : Dev nD) (t : Fin cfg0.N) : (dats m 0 c).after 9 t = qS (iblk m c 2 t) (iblk m c 3 t) (iblk m c 4 t) := by dsimp only [dats]
theorem after0_10 (c : Dev nD) (t : Fin cfg0.N) : (dats m 0 c).after 10 t = hS (iblk m c 2 t) (iblk m c 3 t) (iblk m c 4 t) := by dsimp only [dats]
theorem after0_11 (c : Dev nD) (t : Fin cfg0.N) : (dats m 0 c).after 11 t = zS (iblk m c 2 t) (iblk m c 3 t) (iblk m c 4 t) := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- After the first point the loss window holds what the point before left. -/
theorem before0_8 (c : Dev nD) (t : Fin cfg0.N) (h0 : ¬ t.val % 74 = 0) (d) :
    (dats m 0 c).before 8 t d = lossAt m c (t.val - 1) := by
  have ht : t.val < 74 := Nat.lt_of_lt_of_eq t.isLt N_0
  have hp : t.val - 1 < cfg0.N := Nat.lt_of_le_of_lt (Nat.sub_le _ _) t.isLt
  refine ((dats m 0 c).before_out_kept 8 rfl t (by omega) ?_ (fun _ => rfl) (fun _ _ => rfl) d).trans (after0_8 m c ⟨t.val - 1, hp⟩)
  refine Bool.eq_false_iff.mpr fun h => ?_
  have := (flush0_8 ⟨t.val - 1, hp⟩).mp h
  change (t.val - 1) % 74 = 73 at this
  omega

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4000000 in
/-- The body at any point: the inputs' memrefs hold their blocks, the loss block what the point before left, so the run
    of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_9, after0_10, after0_11]
  rw [show (dats m 0 c).Φ t.castSucc = Pipeline.ΦA spec0 c from rfl, PhiA0_eq]
  have hN : t.val < 74 := lt_of_lt_of_eq t.isLt (show cfg0.N = 74 from N_0)
  by_cases h0 : t.val % 74 = 0
  · rw [after0_8, lossAt_start m c t h0]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) k0_pay14) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [after0_8, lossAt_next m c t h0]
    simp only [before0_8 m c t h0]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (lossAt m c (t.val - 1))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run of the program to the named contents, with every counter at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every run ends with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.RBlock.lean ====
/- What the reference computes, element by element: its scales, zero points, codes, errors and sums are the row functions
   of Proof/RowMath.lean at each row of the weights. -/
module

public import proofs.«01_k».proof.Proof.Gen.ReferenceIdeal.Frame
public import proofs.«01_k».proof.Proof.Results

@[expose] public section

set_option maxRecDepth 16384

noncomputable section

namespace Cert.ReferenceIdeal.Hand

open Idealize.ShloMosaic Cert.ReferenceIdeal.Gen
open Cert.RowMath (col grp)
open Cert.Results (rowAt tokB tokP)

section Groups
variable (w : Vec Ideal S18944x3584 .f32) (ga be : Vec Ideal S18944x28 .f32) (r : Fin 18944) (g : Fin 28) (l : Fin 128)

/-- The scale of a group. -/
theorem h_apply : k0_pay11 w ga be (ix2 r g) = RowMath.hG (rowAt w r) (rowAt ga r) (rowAt be r) g := by
  unfold_payloads
  pointwise
  unfold RowMath.hG RowMath.span RowMath.lo
  congr

/-- The lower bound in units of the scale. -/
theorem loh_apply : k0_pay12 w ga be (ix2 r g) = RowMath.lohG (rowAt w r) (rowAt ga r) (rowAt be r) g := by
  have h := h_apply w ga be r g
  unfold k0_pay12 k0_pay10 k0_pay9 k0_pay7 k0_pay6
  pointwise [h]
  rfl

/-- The zero point of a group. -/
theorem z_apply : k0_pay13 w ga be (ix2 r g) = RowMath.zG (rowAt w r) (rowAt ga r) (rowAt be r) g := by
  have h := loh_apply w ga be r g
  unfold k0_pay13
  pointwise [h]
  rfl

/-- The zero point again, with a unit axis. -/
theorem z1_apply : k0_pay18 w ga be (ix3 r g 0) = RowMath.zG (rowAt w r) (rowAt ga r) (rowAt be r) g := by
  have h := z_apply w ga be r g
  unfold k0_pay18
  pointwise [h]

/-- A weight in units of its group's scale. -/
theorem v_apply : k0_pay14 w ga be (ix3 r g l) =
    Ideal.div (w (ix2 r (col g l))) (RowMath.hG (rowAt w r) (rowAt ga r) (rowAt be r) g) := by
  have h := h_apply w ga be r g
  unfold k0_pay14 k0_pay7
  pointwise [h]
  rfl

/-- The unclipped code of a weight. -/
theorem c_apply : k0_pay15 w ga be (ix3 r g l) =
    RowMath.cOf (w (ix2 r (col g l))) (RowMath.hG (rowAt w r) (rowAt ga r) (rowAt be r) g) (RowMath.zG (rowAt w r) (rowAt ga r) (rowAt be r) g) := by
  have h := z_apply w ga be r g
  have h' := v_apply w ga be r g l
  unfold k0_pay15
  pointwise [h, h']
  rfl

/-- The code of a weight as an 8-bit integer. -/
theorem q_apply : k0_pay16 w ga be (ix3 r g l) = Ideal.fptosi 8
    (RowMath.qfOf (w (ix2 r (col g l))) (RowMath.hG (rowAt w r) (rowAt ga r) (rowAt be r) g) (RowMath.zG (rowAt w r) (rowAt ga r) (rowAt be r) g)) := by
  have h := c_apply w ga be r g l
  unfold k0_pay16
  pointwise [h]
  rfl

/-- The integer code as a number again is the code. -/
theorem qf_apply : k0_pay17 w ga be (ix3 r g l) =
    RowMath.qfOf (w (ix2 r (col g l))) (RowMath.hG (rowAt w r) (rowAt ga r) (rowAt be r) g) (RowMath.zG (rowAt w r) (rowAt ga r) (rowAt be r) g) := by
  have h := q_apply w ga be r g l
  unfold k0_pay17
  refine Eq.trans ?_ (RowMath.sitofp_qfOf _ _ _)
  exact congrArg (FloatOps.sitofp (F := Ideal) .f32) h

/-- The codes in the weights' shape. -/
theorem q2_apply (d : Fin 3584) : k0_pay4 (k0_pay16 w ga be) (ix2 r d) = RowMath.qR (rowAt w r) (rowAt ga r) (rowAt be r) d := by
  have h := q_apply w ga be r (grp d) ⟨d.val % 128, Nat.mod_lt _ (by norm_num)⟩
  have hd : col (grp d) ⟨d.val % 128, Nat.mod_lt _ (by norm_num)⟩ = d := Fin.ext (by show d.val / 128 * 128 + d.val % 128 = d.val; omega)
  rw [hd] at h
  unfold k0_pay4
  pointwise
  exact h

end Groups

section Forward
variable (x0 : Vec Ideal S16x384x3584 .fp8e4m3) (x1 : Vec Ideal S16x384 .f32) (w : Vec Ideal S18944x3584 .f32)
  (ga be : Vec Ideal S18944x28 .f32) (x5 : Vec Ideal S16x384x18944 .bf16) (o : Fin 18944)

/-- The error of an output row on a token. -/
theorem err_apply (b : Fin 16) (s : Fin 384) :
    k0_pay22 x0 x1 x5 (k0_pay11 w ga be) (k0_pay17 w ga be) (k0_pay18 w ga be) (ix3 b s o)
      = RowMath.err (rowAt w o) (rowAt ga o) (rowAt be o) (Results.X x0) (Results.XS x1) (Results.Y x5 o) ⟨b.val * 384 + s.val, by omega⟩ := by
  have eb : tokB ⟨b.val * 384 + s.val, by omega⟩ = b := Fin.ext (by show (b.val * 384 + s.val) / 384 = b.val; omega)
  have es : tokP ⟨b.val * 384 + s.val, by omega⟩ = s := Fin.ext (by show (b.val * 384 + s.val) % 384 = s.val; omega)
  unfold k0_pay22 k0_pay21 k0_pay20 k0_pay19
  pointwise [dot_S16x384x3584_S18944x3584_S16x384x18944_2_1_01_0_n_n]
  unfold RowMath.err Results.X Results.XS Results.Y
  rw [eb, es]
  refine congrArg (· * _ - _) (Finset.sum_congr rfl fun d _ => ?_)
  rw [mul_comm]
  refine congrArg (· * _) ?_
  have hd : col (grp d) ⟨d.val % 128, Nat.mod_lt _ (by norm_num)⟩ = d := Fin.ext (by show d.val / 128 * 128 + d.val % 128 = d.val; omega)
  have h1 := qf_apply w ga be o (grp d) ⟨d.val % 128, Nat.mod_lt _ (by norm_num)⟩
  have h2 := z1_apply w ga be o (grp d)
  have h3 := h_apply w ga be o (grp d)
  rw [hd] at h1
  unfold RowMath.whatR RowMath.whatOf
  exact congrArg₂ (· * ·) (congrArg₂ (· - ·) h1 h2) h3

/-- The scaled gradient in a weight. -/
theorem gW_apply (g : Fin 28) (l : Fin 128) :
    k0_pay24 x0 x1 x5 (k0_pay11 w ga be) (k0_pay17 w ga be) (k0_pay18 w ga be) (ix3 o g l)
      = RowMath.kG * RowMath.gW (rowAt w o) (rowAt ga o) (rowAt be o) (Results.X x0) (Results.XS x1) (Results.Y x5 o) (col g l) := by
  unfold k0_pay24
  pointwise [dot_S16x384x18944_S16x384x3584_S18944x3584_01_01_2_2_n_n]
  refine congrArg (RowMath.kG * ·) ?_
  refine Eq.trans ?_ (Fin.sum_mul_add_fin 16 384 (fun t : Fin 6144 => RowMath.err (rowAt w o) (rowAt ga o) (rowAt be o) (Results.X x0)
    (Results.XS x1) (Results.Y x5 o) t * Results.XS x1 t * Results.X x0 t (col g l)))
  refine Finset.sum_congr rfl fun b _ => Finset.sum_congr rfl fun s _ => ?_
  have eb : tokB ⟨b.val * 384 + s.val, by omega⟩ = b := Fin.ext (by show (b.val * 384 + s.val) / 384 = b.val; omega)
  have es : tokP ⟨b.val * 384 + s.val, by omega⟩ = s := Fin.ext (by show (b.val * 384 + s.val) % 384 = s.val; omega)
  rw [err_apply]
  unfold Results.X Results.XS
  rw [eb, es]
  unfold k0_pay21 k0_pay20
  pointwise
  rfl

end Forward

section Backward
variable (x0 : Vec Ideal S16x384x3584 .fp8e4m3) (x1 : Vec Ideal S16x384 .f32) (w : Vec Ideal S18944x3584 .f32)
  (ga be : Vec Ideal S18944x28 .f32) (x5 : Vec Ideal S16x384x18944 .bf16) (o : Fin 18944) (g : Fin 28)

open Classical in
/-- The mask of the unclipped codes. -/
theorem mask_apply (l : Fin 128) : k0_pay25 (k0_pay15 w ga be) (ix3 o g l) = if RowMath.inside (w (ix2 o (col g l)))
    (RowMath.hG (rowAt w o) (rowAt ga o) (rowAt be o) g) (RowMath.zG (rowAt w o) (rowAt ga o) (rowAt be o) g) then (1 : EReal) else 0 := by
  have h := c_apply w ga be o g l
  unfold k0_pay25
  pointwise [h, RowMath.mask_and]
  unfold RowMath.inside
  congr

/-- The scale sum of a group. -/
theorem sh_apply : k0_pay27 x0 x1 x5 (k0_pay11 w ga be) (k0_pay12 w ga be) (k0_pay14 w ga be) (k0_pay15 w ga be) (k0_pay17 w ga be) (k0_pay18 w ga be) (ix2 o g)
    = RowMath.sh (rowAt w o) (rowAt ga o) (rowAt be o) (Results.X x0) (Results.XS x1) (Results.Y x5 o) g * RowMath.kG := by
  unfold k0_pay27
  pointwise
  rw [mul_comm _ RowMath.kG]
  unfold RowMath.sh
  rw [← RowMath.mul_sum_of_nonneg _ _ _ RowMath.kG_nonneg_ne_top.1 RowMath.kG_nonneg_ne_top.2]
  refine Finset.sum_congr rfl fun l _ => ?_
  rw [← mul_assoc]
  refine congrArg₂ (· * ·) (gW_apply x0 x1 w ga be x5 o g l) ?_
  unfold k0_pay26 k0_pay19
  pointwise [mask_apply w ga be o g l, loh_apply w ga be o g, v_apply w ga be o g l, qf_apply w ga be o g l, z1_apply w ga be o g]
  exact RowMath.dOf_mask _ _ _ _

/-- The clip sum of a group. -/
theorem sc_apply : k0_pay28 x0 x1 x5 (k0_pay11 w ga be) (k0_pay15 w ga be) (k0_pay17 w ga be) (k0_pay18 w ga be) (ix2 o g)
    = RowMath.sc (rowAt w o) (rowAt ga o) (rowAt be o) (Results.X x0) (Results.XS x1) (Results.Y x5 o) g * RowMath.kG := by
  unfold k0_pay28
  pointwise
  rw [mul_comm _ RowMath.kG]
  unfold RowMath.sc
  rw [← RowMath.mul_sum_of_nonneg _ _ _ RowMath.kG_nonneg_ne_top.1 RowMath.kG_nonneg_ne_top.2]
  refine Finset.sum_congr rfl fun l _ => ?_
  rw [← mul_assoc]
  refine congrArg₂ (· * ·) (gW_apply x0 x1 w ga be x5 o g l) ?_
  unfold k0_pay26
  pointwise [mask_apply w ga be o g l]
  exact RowMath.omOf_mask _ _ _

/-- The gradient in the upper clipping parameter. -/
theorem dg_apply : k0_pay1 (k0_pay8 w) (k0_pay29 x0 x1 x5 (k0_pay5 ga) (k0_pay11 w ga be) (k0_pay12 w ga be) (k0_pay14 w ga be) (k0_pay15 w ga be)
      (k0_pay17 w ga be) (k0_pay18 w ga be)) (k0_pay30 (k0_pay5 ga)) (ix2 o g)
    = RowMath.dgR (rowAt w o) (rowAt ga o) (rowAt be o) (Results.X x0) (Results.XS x1) (Results.Y x5 o) g := by
  have h := sh_apply x0 x1 w ga be x5 o g
  unfold k0_pay1 k0_pay29 k0_pay30 k0_pay5 k0_pay8 k0_pay7
  pointwise [h]
  rfl

/-- The gradient in the lower clipping parameter. -/
theorem db_apply : k0_pay2 (k0_pay6 be) (k0_pay9 w) (k0_pay27 x0 x1 x5 (k0_pay11 w ga be) (k0_pay12 w ga be) (k0_pay14 w ga be) (k0_pay15 w ga be)
      (k0_pay17 w ga be) (k0_pay18 w ga be)) (k0_pay28 x0 x1 x5 (k0_pay11 w ga be) (k0_pay15 w ga be) (k0_pay17 w ga be) (k0_pay18 w ga be)) (ix2 o g)
    = RowMath.dbR (rowAt w o) (rowAt ga o) (rowAt be o) (Results.X x0) (Results.XS x1) (Results.Y x5 o) g := by
  have h := sh_apply x0 x1 w ga be x5 o g
  have h' := sc_apply x0 x1 w ga be x5 o g
  unfold k0_pay2 k0_pay6 k0_pay9 k0_pay7
  pointwise [h, h']
  rfl

end Backward

end Cert.ReferenceIdeal.Hand

end
-- ==== Proof.RLoss.lean ====
/- The reference's loss: its sum over batches, positions and rows is the sum over rows and tokens. -/
module

public import proofs.«01_k».proof.Proof.RBlock
public import Idealize.ShloMosaic.PureOps.Ideal.Laws

@[expose] public section

set_option maxRecDepth 16384

noncomputable section

namespace Cert.ReferenceIdeal.Hand

open Idealize.ShloMosaic Cert.ReferenceIdeal.Gen
open Cert.RowMath (col grp)
open Cert.Results (rowAt tokB tokP)

variable (x0 : Vec Ideal S16x384x3584 .fp8e4m3) (x1 : Vec Ideal S16x384 .f32) (w : Vec Ideal S18944x3584 .f32)
  (ga be : Vec Ideal S18944x28 .f32) (x5 : Vec Ideal S16x384x18944 .bf16)

/-- The total of an array with a leading unit axis, axis by axis. -/
theorem total_apply (A : FVec Ideal S16x384x18944 .f32) :
    Ideal.reduceAdd reduces_S1x16x384x18944_S1 (shapeCast S1x16x384x18944 A shapeCasts_S16x384x18944_S1x16x384x18944) (ix1 0)
      = ∑ b : Fin 16, ∑ s : Fin 384, ∑ o : Fin 18944, A (ix3 b s o) := by
  rw [Ideal.reduceAdd_total _ (by decide), sum_idx4, Fin.sum_univ_one]
  refine Finset.sum_congr rfl fun b _ => Finset.sum_congr rfl fun s _ => Finset.sum_congr rfl fun o _ => ?_
  pointwise

/-- The squared errors summed row by row. -/
theorem sq_total : ∑ b : Fin 16, ∑ s : Fin 384, ∑ o : Fin 18944,
      RowMath.sq (rowAt w o) (rowAt ga o) (rowAt be o) (Results.X x0) (Results.XS x1) (Results.Y x5 o) ⟨b.val * 384 + s.val, by omega⟩
    = Results.sqSum x0 x1 w ga be x5 := by
  exact (Fin.sum_mul_add_fin 16 384 (fun t : Fin 6144 => ∑ o : Fin 18944,
      RowMath.sq (rowAt w o) (rowAt ga o) (rowAt be o) (Results.X x0) (Results.XS x1) (Results.Y x5 o) t)).trans Finset.sum_comm

/-- The loss. -/
theorem loss_apply : k0_pay3 (k0_pay23 x0 x1 x5 (k0_pay11 w ga be) (k0_pay17 w ga be) (k0_pay18 w ga be)) (ix2 0 0)
    = Results.loss x0 x1 w ga be x5 := by
  have h := total_apply (mulf (k0_pay22 x0 x1 x5 (k0_pay11 w ga be) (k0_pay17 w ga be) (k0_pay18 w ga be))
    (k0_pay22 x0 x1 x5 (k0_pay11 w ga be) (k0_pay17 w ga be) (k0_pay18 w ga be)))
  unfold k0_pay3 k0_pay23 Results.loss
  rw [← sq_total]
  pointwise
  rw [h]
  refine congrArg (Ideal.div · RowMath.kN) ?_
  refine Finset.sum_congr rfl fun b _ => Finset.sum_congr rfl fun s _ => Finset.sum_congr rfl fun o _ => ?_
  exact congrArg₂ (· * ·) (err_apply x0 x1 w ga be x5 o b s) (err_apply x0 x1 w ga be x5 o b s)

end Cert.ReferenceIdeal.Hand

end
-- ==== Proof.RArray.lean ====
/- The reference program's run: from any contents it ends with the six results of Proof/Results.lean in its result buffers
   and its arguments unchanged. -/
module

public import proofs.«01_k».proof.Proof.RLoss
public import Idealize.ShloMosaic.Lib.Pipeline.ValueKit
public import Idealize.ShloMosaic.Lib.Claim

@[expose] public section

set_option maxRecDepth 16384

noncomputable section

namespace Cert.ReferenceIdeal.Hand

open Idealize.ShloMosaic Idealize.ShloMosaic.TcCoe Idealize.SL.Sem Cert.ReferenceIdeal.Gen
open Cert.RowMath (col grp)
open Cert.Results (rowAt tokB tokP)

variable (m : (ℓ : Loc nD τ sig) → Buf (Elt Ideal) ℓ) (ρ : Dev nD → PrngReg) (c : Dev nD)

/-- The six arguments. -/
abbrev arg0 : Vec Ideal S16x384x3584 .fp8e4m3 := m ((c.tc : Thread nD τ).loc main_arg0)
abbrev arg1 : Vec Ideal S16x384 .f32 := m ((c.tc : Thread nD τ).loc main_arg1)
abbrev arg2 : Vec Ideal S18944x3584 .f32 := m ((c.tc : Thread nD τ).loc main_arg2)
abbrev arg3 : Vec Ideal S18944x28 .f32 := m ((c.tc : Thread nD τ).loc main_arg3)
abbrev arg4 : Vec Ideal S18944x28 .f32 := m ((c.tc : Thread nD τ).loc main_arg4)
abbrev arg5 : Vec Ideal S16x384x18944 .bf16 := m ((c.tc : Thread nD τ).loc main_arg5)

/-- Every index of a matrix is a row and a column. -/
theorem exists_ix2 {a b : ℕ} (y : (⟨2, ![a, b]⟩ : Shape).Idx) : ∃ (r : Fin a) (g : Fin b), y = ix2 r g :=
  ⟨y 0, y 1, funext fun i => match i with | ⟨0, _⟩ => rfl | ⟨1, _⟩ => rfl⟩

/-- Every window's block is its array's first. -/
theorem index_eq : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0, 0] :=
  (by decide +kernel : ∀ t : Fin grid0.N, _)

/-! Each input's one block is the whole argument. -/
theorem iblk_0 : iblk m c 0 t0_0 = arg0 m c := by blk_ext! [iblk, V, index_eq t0_0]
theorem iblk_1 : iblk m c 1 t0_0 = arg1 m c := by blk_ext! [iblk, V, index_eq t0_0]
theorem iblk_2 : iblk m c 2 t0_0 = arg2 m c := by blk_ext! [iblk, V, index_eq t0_0]
theorem iblk_3 : iblk m c 3 t0_0 = arg3 m c := by blk_ext! [iblk, V, index_eq t0_0]
theorem iblk_4 : iblk m c 4 t0_0 = arg4 m c := by blk_ext! [iblk, V, index_eq t0_0]
theorem iblk_5 : iblk m c 5 t0_0 = arg5 m c := by blk_ext! [iblk, V, index_eq t0_0]

/-! The result arrays. -/
theorem final_6 : (dats m 0 c).arrAt 6 cfg0.N = Results.dg (arg0 m c) (arg1 m c) (arg2 m c) (arg3 m c) (arg4 m c) (arg5 m c) := by
  refine (dats m 0 c).arrAt_eq_of_after_last 6 t0_0 (by decide +kernel) _ fun j => ?_
  blk_simp
  rw [after0_6, iblk_0, iblk_1, iblk_2, iblk_3, iblk_4, iblk_5]
  unfold_out out0_6
  frame_out
  obtain ⟨r, g, rfl⟩ := exists_ix2 j
  simp only [dg_apply]
  rfl
theorem final_7 : (dats m 0 c).arrAt 7 cfg0.N = Results.db (arg0 m c) (arg1 m c) (arg2 m c) (arg3 m c) (arg4 m c) (arg5 m c) := by
  refine (dats m 0 c).arrAt_eq_of_after_last 7 t0_0 (by decide +kernel) _ fun j => ?_
  blk_simp
  rw [after0_7, iblk_0, iblk_1, iblk_2, iblk_3, iblk_4, iblk_5]
  unfold_out out0_7
  frame_out
  obtain ⟨r, g, rfl⟩ := exists_ix2 j
  simp only [db_apply]
  rfl
theorem final_8 : (dats m 0 c).arrAt 8 cfg0.N = fun _ => Results.loss (arg0 m c) (arg1 m c) (arg2 m c) (arg3 m c) (arg4 m c) (arg5 m c) := by
  refine (dats m 0 c).arrAt_eq_of_after_last 8 t0_0 (by decide +kernel) _ fun j => ?_
  blk_simp
  rw [after0_8, iblk_0, iblk_1, iblk_2, iblk_3, iblk_4, iblk_5]
  unfold_out out0_8
  frame_out
  obtain ⟨r, g, rfl⟩ := exists_ix2 j
  obtain rfl : r = 0 := Subsingleton.elim _ _
  obtain rfl : g = 0 := Subsingleton.elim _ _
  exact loss_apply (arg0 m c) (arg1 m c) (arg2 m c) (arg3 m c) (arg4 m c) (arg5 m c)
theorem final_9 : (dats m 0 c).arrAt 9 cfg0.N = Results.q (arg2 m c) (arg3 m c) (arg4 m c) := by
  refine (dats m 0 c).arrAt_eq_of_after_last 9 t0_0 (by decide +kernel) _ fun j => ?_
  blk_simp
  rw [after0_9, iblk_0, iblk_1, iblk_2, iblk_3, iblk_4, iblk_5]
  unfold_out out0_9
  frame_out
  obtain ⟨r, g, rfl⟩ := exists_ix2 j
  simp only [q2_apply]
  rfl
theorem final_10 : (dats m 0 c).arrAt 10 cfg0.N = Results.h (arg2 m c) (arg3 m c) (arg4 m c) := by
  refine (dats m 0 c).arrAt_eq_of_after_last 10 t0_0 (by decide +kernel) _ fun j => ?_
  blk_simp
  rw [after0_10, iblk_0, iblk_1, iblk_2, iblk_3, iblk_4, iblk_5]
  unfold_out out0_10
  frame_out
  obtain ⟨r, g, rfl⟩ := exists_ix2 j
  simp only [h_apply]
  rfl
theorem final_11 : (dats m 0 c).arrAt 11 cfg0.N = Results.z (arg2 m c) (arg3 m c) (arg4 m c) := by
  refine (dats m 0 c).arrAt_eq_of_after_last 11 t0_0 (by decide +kernel) _ fun j => ?_
  blk_simp
  rw [after0_11, iblk_0, iblk_1, iblk_2, iblk_3, iblk_4, iblk_5]
  unfold_out out0_11
  frame_out
  obtain ⟨r, g, rfl⟩ := exists_ix2 j
  simp only [z_apply]
  rfl

/-- The loss as a scalar. -/
theorem final_loss : Pipeline.afterTail₀ cfgs (dats m) 0 (V0 m) [hostOps1] c main_v1 = fun _ =>
    Results.loss (arg0 m c) (arg1 m c) (arg2 m c) (arg3 m c) (arg4 m c) (arg5 m c) := by
  unfold Pipeline.afterTail₀
  show StableHlo.after (hostOps1 (F := Ideal)) _ (Proc.devRef .tc main_v1) = _
  unfold hostOps1
  after_results
  rw [show (Pipeline.withArrays spec0 c (V0 m c) fun w => (dats m 0 c).arrAt w cfg0.N) (Proc.devRef .tc main_v0_2) = (dats m 0 c).arrAt 8 cfg0.N
    from Pipeline.withArrays_arr _ launch0.win.arr_inj _ _ _ 8, final_8]
  rfl

/-- The reference's run and everything it leaves. -/
theorem run_results : θ_run defs (onTc (τ := τ) (main (F := Ideal))) ⟨m, fun _ => 0, ρ⟩ (fun r => ∀ c : Dev nD,
      r.2.mem ((c.tc : Thread nD τ).loc main_v0_0) = Results.dg (arg0 m c) (arg1 m c) (arg2 m c) (arg3 m c) (arg4 m c) (arg5 m c)
      ∧ r.2.mem ((c.tc : Thread nD τ).loc main_v0_1) = Results.db (arg0 m c) (arg1 m c) (arg2 m c) (arg3 m c) (arg4 m c) (arg5 m c)
      ∧ r.2.mem ((c.tc : Thread nD τ).loc main_v1) = (fun _ => Results.loss (arg0 m c) (arg1 m c) (arg2 m c) (arg3 m c) (arg4 m c) (arg5 m c))
      ∧ r.2.mem ((c.tc : Thread nD τ).loc main_v0_3) = Results.q (arg2 m c) (arg3 m c) (arg4 m c)
      ∧ r.2.mem ((c.tc : Thread nD τ).loc main_v0_4) = Results.h (arg2 m c) (arg3 m c) (arg4 m c)
      ∧ r.2.mem ((c.tc : Thread nD τ).loc main_v0_5) = Results.z (arg2 m c) (arg3 m c) (arg4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (final_6 m c), ((h.1 c).1 7).trans (final_7 m c),
      ((h.1 c).2 main_v1 (Pipeline.mem_restRefs_of main_v1 (by decide) (by decide))).trans (final_loss m c),
      ((h.1 c).1 9).trans (final_9 m c), ((h.1 c).1 10).trans (final_10 m c), ((h.1 c).1 11).trans (final_11 m c), h.2 c⟩)
    (θ_run_and (run_main m ρ) (frame_of m ρ (dats m) (A_eq m) (run_main m ρ)))

end Cert.ReferenceIdeal.Hand

end
-- ==== Proof.lean ====
/- The certificate of `Cert.Claim` (proofs.«01_k».proof.Defs): the three programs' frames, the idealization, and the
   equation of the idealized kernel with the reference on all six results.

   The mathematics is in Proof/RowMath.lean (one row) and Proof/Results.lean (the six results). The kernel's side is
   Proof/KSpec.lean and Proof/KLoops.lean (what the body stores), Proof/KRuns.lean, KRunA.lean, KRunB.lean and KFrame.lean
   (its run), Proof/KBlock.lean, KForward.lean and KBackward.lean (one grid point's blocks), Proof/KArray.lean (the arrays)
   and Proof/KRunValue.lean (the program). Proof/Word/ is the run of the program before its idealization, for its frame. The reference's is Proof/RBlock.lean, RLoss.lean and RArray.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KRunValue
public import proofs.«01_k».proof.Proof.Word.KFrame
public import proofs.«01_k».proof.Proof.RArray

@[expose] public section

noncomputable section

namespace Cert.Proof

open Idealize.ShloMosaic Idealize.SL.Sem

/-- From equal arguments the idealized kernel and the reference end with the same six results: each ends with the
    functions of Proof/Results.lean of its own arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, _, _, _, _, Cert.KernelIdeal.Hand.run_results m g, ?_⟩
  refine (θ_run _ _ _).mono (fun r h c => ?_) (Cert.ReferenceIdeal.Hand.run_results m' g')
  obtain ⟨h0, h1, h2, h3, h4, h5, hargs⟩ := h c
  obtain ⟨a0, a1, a2, a3, a4, a5⟩ := hagree c
  rw [show Cert.ReferenceIdeal.Hand.arg2 m' c = _ from a2, show Cert.ReferenceIdeal.Hand.arg3 m' c = _ from a3,
    show Cert.ReferenceIdeal.Hand.arg4 m' c = _ from a4] at h0 h1 h2 h3 h4 h5
  rw [show Cert.ReferenceIdeal.Hand.arg0 m' c = _ from a0, show Cert.ReferenceIdeal.Hand.arg1 m' c = _ from a1,
    show Cert.ReferenceIdeal.Hand.arg5 m' c = _ from a5] at h0 h1 h2
  exact ⟨h0, h1, h2, h3, h4, h5, hargs⟩

/-- The three frames, the idealization, which uses no rewrite, and the equation. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
